-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Transform (m : (ℓ : Loc Cert.Transform.nD Cert.Transform.τ Cert.Transform.sig) → Buf (Elt Bits) ℓ) : Prop :=
  True

def Pre_TransformIdeal (m : (ℓ : Loc Cert.TransformIdeal.nD Cert.TransformIdeal.τ Cert.TransformIdeal.sig) → Buf (Elt Ideal) ℓ) : Prop :=
  True

def Pre_TransformIdeal_finite [hPre_finite : Cert.Pre_finite.Facts] (m : (ℓ : Loc Cert.TransformIdeal.nD Cert.TransformIdeal.τ Cert.TransformIdeal.sig) → Buf (Elt Ideal) ℓ) : Prop :=
  ∀ c : Dev Cert.TransformIdeal.nD,
    (Cert.Pre_finite.fn (F := Ideal) (m ((c.tc : Thread Cert.TransformIdeal.nD Cert.TransformIdeal.τ).loc Cert.TransformIdeal.main_arg0)) (m ((c.tc : Thread Cert.TransformIdeal.nD Cert.TransformIdeal.τ).loc Cert.TransformIdeal.main_arg1)) (m ((c.tc : Thread Cert.TransformIdeal.nD Cert.TransformIdeal.τ).loc Cert.TransformIdeal.main_arg2)) (m ((c.tc : Thread Cert.TransformIdeal.nD Cert.TransformIdeal.τ).loc Cert.TransformIdeal.main_arg3)) (m ((c.tc : Thread Cert.TransformIdeal.nD Cert.TransformIdeal.τ).loc Cert.TransformIdeal.main_arg4))) = (fun _ => 1#1)

def Pre_PlainIdeal (m : (ℓ : Loc Cert.PlainIdeal.nD Cert.PlainIdeal.τ Cert.PlainIdeal.sig) → Buf (Elt Ideal) ℓ) : Prop :=
  True

def Pre_PlainIdeal_finite [hPre_finite : Cert.Pre_finite.Facts] (m : (ℓ : Loc Cert.PlainIdeal.nD Cert.PlainIdeal.τ Cert.PlainIdeal.sig) → Buf (Elt Ideal) ℓ) : Prop :=
  ∀ c : Dev Cert.PlainIdeal.nD,
    (Cert.Pre_finite.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2)) (m ((c.tc : Thread Cert.PlainIdeal.nD Cert.PlainIdeal.τ).loc Cert.PlainIdeal.main_arg3)) (m ((c.tc : Thread Cert.PlainIdeal.nD Cert.PlainIdeal.τ).loc Cert.PlainIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Transform [hTransform : Cert.Transform.Facts] : Prop :=
  ∀ (m : (ℓ : Loc Cert.Transform.nD Cert.Transform.τ Cert.Transform.sig) → Buf (Elt Bits) ℓ) (g : Dev Cert.Transform.nD → PrngReg), Pre_Transform m →
    θ_run (Cert.Transform.defs (F := Bits)) (onTc (τ := Cert.Transform.τ) (Cert.Transform.main (F := Bits))) ⟨m, fun _ => 0, g⟩ (fun r => (∀ c : Dev Cert.Transform.nD,
      r.2.mem ((c.tc : Thread Cert.Transform.nD Cert.Transform.τ).loc Cert.Transform.main_arg0) = m ((c.tc : Thread Cert.Transform.nD Cert.Transform.τ).loc Cert.Transform.main_arg0)
      ∧ r.2.mem ((c.tc : Thread Cert.Transform.nD Cert.Transform.τ).loc Cert.Transform.main_arg1) = m ((c.tc : Thread Cert.Transform.nD Cert.Transform.τ).loc Cert.Transform.main_arg1)
      ∧ r.2.mem ((c.tc : Thread Cert.Transform.nD Cert.Transform.τ).loc Cert.Transform.main_arg2) = m ((c.tc : Thread Cert.Transform.nD Cert.Transform.τ).loc Cert.Transform.main_arg2)
      ∧ r.2.mem ((c.tc : Thread Cert.Transform.nD Cert.Transform.τ).loc Cert.Transform.main_arg3) = m ((c.tc : Thread Cert.Transform.nD Cert.Transform.τ).loc Cert.Transform.main_arg3)
      ∧ r.2.mem ((c.tc : Thread Cert.Transform.nD Cert.Transform.τ).loc Cert.Transform.main_arg4) = m ((c.tc : Thread Cert.Transform.nD Cert.Transform.τ).loc Cert.Transform.main_arg4))
      ∧ r.2.sem = fun _ => 0)

def quiescent_TransformIdeal [hTransformIdeal : Cert.TransformIdeal.Facts] : Prop :=
  ∀ (m : (ℓ : Loc Cert.TransformIdeal.nD Cert.TransformIdeal.τ Cert.TransformIdeal.sig) → Buf (Elt Ideal) ℓ) (g : Dev Cert.TransformIdeal.nD → PrngReg), Pre_TransformIdeal m →
    θ_run (Cert.TransformIdeal.defs (F := Ideal)) (onTc (τ := Cert.TransformIdeal.τ) (Cert.TransformIdeal.main (F := Ideal))) ⟨m, fun _ => 0, g⟩ (fun r => (∀ c : Dev Cert.TransformIdeal.nD,
      r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
      ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
      ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4))
      ∧ r.2.sem = fun _ => 0)

def quiescent_TransformIdeal_pre_finite [hTransformIdeal : Cert.TransformIdeal.Facts] [hPre_finite : Cert.Pre_finite.Facts] : Prop :=
  ∀ (m : (ℓ : Loc Cert.TransformIdeal.nD Cert.TransformIdeal.τ Cert.TransformIdeal.sig) → Buf (Elt Ideal) ℓ) (g : Dev Cert.TransformIdeal.nD → PrngReg), Pre_TransformIdeal_finite m →
    θ_run (Cert.TransformIdeal.defs (F := Ideal)) (onTc (τ := Cert.TransformIdeal.τ) (Cert.TransformIdeal.main (F := Ideal))) ⟨m, fun _ => 0, g⟩ (fun r => (∀ c : Dev Cert.TransformIdeal.nD,
      r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
      ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
      ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ r.2.sem = fun _ => 0)

def quiescent_PlainIdeal_pre_finite [hPlainIdeal : Cert.PlainIdeal.Facts] [hPre_finite : Cert.Pre_finite.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal_finite m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Transform_TransformIdeal : Prop :=
  IdealRules.sign_bit.Statement Cert.TransformIdeal.S48x256 .f32

def algebraic_TransformIdeal_PlainIdeal_pre_finite [hTransformIdeal : Cert.TransformIdeal.Facts] [hPlainIdeal : Cert.PlainIdeal.Facts] [hPre_finite : Cert.Pre_finite.Facts] : Prop :=
  ∀ (m : (ℓ : Loc Cert.TransformIdeal.nD Cert.TransformIdeal.τ Cert.TransformIdeal.sig) → Buf (Elt Ideal) ℓ) (g : Dev Cert.TransformIdeal.nD → PrngReg)
    (m' : (ℓ : Loc Cert.PlainIdeal.nD Cert.PlainIdeal.τ Cert.PlainIdeal.sig) → Buf (Elt Ideal) ℓ) (g' : Dev Cert.PlainIdeal.nD → PrngReg), Pre_TransformIdeal_finite m →
    (∀ c : Dev Cert.TransformIdeal.nD,
      m' ((c.tc : Thread Cert.PlainIdeal.nD Cert.PlainIdeal.τ).loc Cert.PlainIdeal.main_arg0) = m ((c.tc : Thread Cert.TransformIdeal.nD Cert.TransformIdeal.τ).loc Cert.TransformIdeal.main_arg0)
      ∧ m' ((c.tc : Thread Cert.PlainIdeal.nD Cert.PlainIdeal.τ).loc Cert.PlainIdeal.main_arg1) = m ((c.tc : Thread Cert.TransformIdeal.nD Cert.TransformIdeal.τ).loc Cert.TransformIdeal.main_arg1)
      ∧ m' ((c.tc : Thread Cert.PlainIdeal.nD Cert.PlainIdeal.τ).loc Cert.PlainIdeal.main_arg2) = m ((c.tc : Thread Cert.TransformIdeal.nD Cert.TransformIdeal.τ).loc Cert.TransformIdeal.main_arg2)
      ∧ m' ((c.tc : Thread Cert.PlainIdeal.nD Cert.PlainIdeal.τ).loc Cert.PlainIdeal.main_arg3) = m ((c.tc : Thread Cert.TransformIdeal.nD Cert.TransformIdeal.τ).loc Cert.TransformIdeal.main_arg3)
      ∧ m' ((c.tc : Thread Cert.PlainIdeal.nD Cert.PlainIdeal.τ).loc Cert.PlainIdeal.main_arg4) = m ((c.tc : Thread Cert.TransformIdeal.nD Cert.TransformIdeal.τ).loc Cert.TransformIdeal.main_arg4)) →
    ∃ (v0 : (c : Dev Cert.TransformIdeal.nD) → Buf (Elt Ideal) ((c.tc : Thread Cert.TransformIdeal.nD Cert.TransformIdeal.τ).loc Cert.TransformIdeal.main_v5)) (v1 : (c : Dev Cert.TransformIdeal.nD) → Buf (Elt Ideal) ((c.tc : Thread Cert.TransformIdeal.nD Cert.TransformIdeal.τ).loc Cert.TransformIdeal.main_v6)),
      θ_run (Cert.TransformIdeal.defs (F := Ideal)) (onTc (τ := Cert.TransformIdeal.τ) (Cert.TransformIdeal.main (F := Ideal))) ⟨m, fun _ => 0, g⟩ (fun r => ∀ c : Dev Cert.TransformIdeal.nD,
          r.2.mem ((c.tc : Thread Cert.TransformIdeal.nD Cert.TransformIdeal.τ).loc Cert.TransformIdeal.main_v5) = v0 c
          ∧ r.2.mem ((c.tc : Thread Cert.TransformIdeal.nD Cert.TransformIdeal.τ).loc Cert.TransformIdeal.main_v6) = v1 c
          ∧ r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
          ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
          ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
          ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
          ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4))
      ∧ θ_run (Cert.PlainIdeal.defs (F := Ideal)) (onTc (τ := Cert.PlainIdeal.τ) (Cert.PlainIdeal.main (F := Ideal))) ⟨m', fun _ => 0, g'⟩ (fun r => ∀ c : Dev Cert.PlainIdeal.nD,
          r.2.mem ((c.tc : Thread Cert.PlainIdeal.nD Cert.PlainIdeal.τ).loc Cert.PlainIdeal.main_v22) = v0 c
          ∧ r.2.mem ((c.tc : Thread Cert.PlainIdeal.nD Cert.PlainIdeal.τ).loc Cert.PlainIdeal.main_v14) = v1 c
          ∧ r.2.mem ((c.tc : Thread Cert.PlainIdeal.nD Cert.PlainIdeal.τ).loc Cert.PlainIdeal.main_arg0) = m' ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m' ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m' ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m' ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m' ((c.tc : Thread Cert.PlainIdeal.nD Cert.PlainIdeal.τ).loc Cert.PlainIdeal.main_arg4))

def Claim : Prop :=
  ∃ (hKernel : Cert.Kernel.Facts) (hKernelIdeal : Cert.KernelIdeal.Facts) (hReferenceIdeal : Cert.ReferenceIdeal.Facts) (hTransform : Cert.Transform.Facts) (hTransformIdeal : Cert.TransformIdeal.Facts) (hPlainIdeal : Cert.PlainIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Transform (hTransform := hTransform)
    ∧ quiescent_TransformIdeal (hTransformIdeal := hTransformIdeal)
    ∧ quiescent_TransformIdeal_pre_finite (hTransformIdeal := hTransformIdeal) (hPre_finite := hPre_finite)
    ∧ quiescent_PlainIdeal (hPlainIdeal := hPlainIdeal)
    ∧ quiescent_PlainIdeal_pre_finite (hPlainIdeal := hPlainIdeal) (hPre_finite := hPre_finite)
    ∧ preserves_Kernel_KernelIdeal
    ∧ algebraic_KernelIdeal_ReferenceIdeal (hKernelIdeal := hKernelIdeal) (hReferenceIdeal := hReferenceIdeal)
    ∧ preserves_Transform_TransformIdeal
    ∧ algebraic_TransformIdeal_PlainIdeal_pre_finite (hTransformIdeal := hTransformIdeal) (hPlainIdeal := hPlainIdeal) (hPre_finite := hPre_finite)
-- ==== Pre_finite.lean ====
abbrev S24x1024x2880 : Shape := ⟨3, ![24, 1024, 2880]⟩
abbrev S192x2880x128 : Shape := ⟨3, ![192, 2880, 128]⟩
abbrev S48x48 : Shape := ⟨2, ![48, 48]⟩
abbrev S60x60 : Shape := ⟨2, ![60, 60]⟩
abbrev S1 : Shape := ⟨1, ![1]⟩
abbrev S_ : Shape := ⟨0, ![]⟩

class Facts : Prop where
  bitsLt_bf16_f32 : FTy.bits .bf16 < FTy.bits .f32
  bcast_S_S24x1024x2880 : S_.BroadcastsInDim S24x1024x2880 (![] : Fin 0 → Fin S24x1024x2880.rank)
  reducesTo_S24x1024x2880_S_d0_1_2 : S24x1024x2880.ReducesTo [0, 1, 2] S_
  h_S_ : 0 < S_.numel
  bcast_S_S48x48 : S_.BroadcastsInDim S48x48 (![] : Fin 0 → Fin S48x48.rank)
  reducesTo_S48x48_S_d0_1 : S48x48.ReducesTo [0, 1] S_
  bcast_S_S60x60 : S_.BroadcastsInDim S60x60 (![] : Fin 0 → Fin S60x60.rank)
  reducesTo_S60x60_S_d0_1 : S60x60.ReducesTo [0, 1] S_

variable [Facts]

def fn {F : FTy → Type} [FloatOps F] (main_arg0 : FVec F S24x1024x2880 .bf16) (main_arg1 : FVec F S192x2880x128 .f32) (main_arg2 : FVec F S48x48 .f32) (main_arg3 : FVec F S60x60 .f32) (main_arg4 : FVec F S1 .f32) : IVec S_ 1 :=
  let main_v0 : FVec F S24x1024x2880 .f32 := (extf .f32 · bitsLt_bf16_f32) main_arg0
  let main_v1 : FVec F S24x1024x2880 .f32 := Host.absf main_v0
  let main_cst : FVec F S_ .f32 := constant S_ .f32 0x7F800000#32
  let main_v2 : FVec F S24x1024x2880 .f32 := broadcastInDim S24x1024x2880 ![] bcast_S_S24x1024x2880 main_cst
  let main_v3 : IVec S24x1024x2880 1 := cmpf .olt main_v1 main_v2
  let main_c : IVec S_ 1 := constantI S_ 1 1#1
  let main_v4 : IVec S_ 1 := (fun x v => Host.reduce IntOp.andi x v reducesTo_S24x1024x2880_S_d0_1_2 h_S_) main_v3 main_c
  let main_v5 : FVec F S48x48 .f32 := Host.absf main_arg2
  let main_cst_0 : FVec F S_ .f32 := constant S_ .f32 0x7F800000#32
  let main_v6 : FVec F S48x48 .f32 := broadcastInDim S48x48 ![] bcast_S_S48x48 main_cst_0
  let main_v7 : IVec S48x48 1 := cmpf .olt main_v5 main_v6
  let main_c_1 : IVec S_ 1 := constantI S_ 1 1#1
  let main_v8 : IVec S_ 1 := (fun x v => Host.reduce IntOp.andi x v reducesTo_S48x48_S_d0_1 h_S_) main_v7 main_c_1
  let main_v9 : IVec S_ 1 := andi main_v4 main_v8
  let main_v10 : FVec F S60x60 .f32 := Host.absf main_arg3
  let main_cst_2 : FVec F S_ .f32 := constant S_ .f32 0x7F800000#32
  let main_v11 : FVec F S60x60 .f32 := broadcastInDim S60x60 ![] bcast_S_S60x60 main_cst_2
  let main_v12 : IVec S60x60 1 := cmpf .olt main_v10 main_v11
  let main_c_3 : IVec S_ 1 := constantI S_ 1 1#1
  let main_v13 : IVec S_ 1 := (fun x v => Host.reduce IntOp.andi x v reducesTo_S60x60_S_d0_1 h_S_) main_v12 main_c_3
  let main_v14 : IVec S_ 1 := andi main_v9 main_v13
  main_v14
-- ==== Kernel.lean ====
abbrev S24x1024x7680 : Shape := ⟨3, ![24, 1024, 7680]⟩
abbrev S1440x7680 : Shape := ⟨2, ![1440, 7680]⟩
abbrev S7680 : Shape := ⟨1, ![7680]⟩
abbrev S24576x7680 : Shape := ⟨2, ![24576, 7680]⟩
abbrev S1x7680 : Shape := ⟨2, ![1, 7680]⟩
abbrev S2880x7680 : Shape := ⟨2, ![2880, 7680]⟩
abbrev S96x7680 : Shape := ⟨2, ![96, 7680]⟩
abbrev S192x7680 : Shape := ⟨2, ![192, 7680]⟩
abbrev S96x1x7680 : Shape := ⟨3, ![96, 1, 7680]⟩
abbrev S96x2x7680 : Shape := ⟨3, ![96, 2, 7680]⟩
abbrev S192x2880x128 : Shape := ⟨3, ![192, 2880, 128]⟩
abbrev S480x7680 : Shape := ⟨2, ![480, 7680]⟩
abbrev S1024x7680 : Shape := ⟨2, ![1024, 7680]⟩
abbrev S8x480x128 : Shape := ⟨3, ![8, 480, 128]⟩
abbrev S480x1024 : Shape := ⟨2, ![480, 1024]⟩
abbrev S480x128 : Shape := ⟨2, ![480, 128]⟩
abbrev S1x480x128 : Shape := ⟨3, ![1, 480, 128]⟩

abbrev nBuf : Space → Nat
  | .hbm => 8
  | .vmem => 11
  | .smem => 0
  | _ => 0

abbrev bufTy : (tb : Table) → Fin (tcTables nBuf tb) → BufTy
  | .hbm, ⟨0, _⟩ => ⟨S24x1024x7680, .bf16⟩
  | .hbm, ⟨1, _⟩ => ⟨S1440x7680, .i8⟩
  | .hbm, ⟨2, _⟩ => ⟨S7680, .f32⟩
  | .hbm, ⟨3, _⟩ => ⟨S24576x7680, .bf16⟩
  | .hbm, ⟨4, _⟩ => ⟨S7680, .bf16⟩
  | .hbm, ⟨5, _⟩ => ⟨S1x7680, .bf16⟩
  | .hbm, ⟨6, _⟩ => ⟨S2880x7680, .bf16⟩
  | .hbm, ⟨7, _⟩ => ⟨S192x2880x128, .f32⟩
  | .local _ .vmem, ⟨0, _⟩ => ⟨S96x7680, .i8⟩
  | .local _ .vmem, ⟨1, _⟩ => ⟨S96x7680, .i8⟩
  | .local _ .vmem, ⟨2, _⟩ => ⟨S1x7680, .bf16⟩
  | .local _ .vmem, ⟨3, _⟩ => ⟨S192x7680, .bf16⟩
  | .local _ .vmem, ⟨4, _⟩ => ⟨S192x7680, .bf16⟩
  | .local _ .vmem, ⟨5, _⟩ => ⟨S480x7680, .bf16⟩
  | .local _ .vmem, ⟨6, _⟩ => ⟨S480x7680, .bf16⟩
  | .local _ .vmem, ⟨7, _⟩ => ⟨S1024x7680, .bf16⟩
  | .local _ .vmem, ⟨8, _⟩ => ⟨S1024x7680, .bf16⟩
  | .local _ .vmem, ⟨9, _⟩ => ⟨S8x480x128, .f32⟩
  | .local _ .vmem, ⟨10, _⟩ => ⟨S8x480x128, .f32⟩
  | _, _ => ⟨S24x1024x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x7680 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x7680 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![24, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S480x7680 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x7680 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x480x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S24x1024x7680 : Shape := ⟨3, ![24, 1024, 7680]⟩
abbrev S1440x7680 : Shape := ⟨2, ![1440, 7680]⟩
abbrev S7680 : Shape := ⟨1, ![7680]⟩
abbrev S_ : Shape := ⟨0, ![]⟩
abbrev S1x7680 : Shape := ⟨2, ![1, 7680]⟩
abbrev S24x1024x1440 : Shape := ⟨3, ![24, 1024, 1440]⟩
abbrev S24x1024x1440x1 : Shape := ⟨4, ![24, 1024, 1440, 1]⟩
abbrev S24x1024x1440x2 : Shape := ⟨4, ![24, 1024, 1440, 2]⟩
abbrev S192x128x2880 : Shape := ⟨3, ![192, 128, 2880]⟩
abbrev S192x2880x128 : Shape := ⟨3, ![192, 2880, 128]⟩

abbrev nBuf : Space → Nat
  | .hbm => 40
  | .vmem => 0
  | .smem => 0
  | _ => 0

abbrev bufTy : (tb : Table) → Fin (tcTables nBuf tb) → BufTy
  | .hbm, ⟨0, _⟩ => ⟨S24x1024x7680, .bf16⟩
  | .hbm, ⟨1, _⟩ => ⟨S1440x7680, .i8⟩
  | .hbm, ⟨2, _⟩ => ⟨S7680, .f32⟩
  | .hbm, ⟨3, _⟩ => ⟨S7680, .bf16⟩
  | .hbm, ⟨4, _⟩ => ⟨S1440x7680, .i32⟩
  | .hbm, ⟨5, _⟩ => ⟨S_, .i32⟩
  | .hbm, ⟨6, _⟩ => ⟨S1440x7680, .i32⟩
  | .hbm, ⟨7, _⟩ => ⟨S1440x7680, .i32⟩
  | .hbm, ⟨8, _⟩ => ⟨S_, .i32⟩
  | .hbm, ⟨9, _⟩ => ⟨S1440x7680, .i32⟩
  | .hbm, ⟨10, _⟩ => ⟨S1440x7680, .i32⟩
  | .hbm, ⟨11, _⟩ => ⟨S_, .i32⟩
  | .hbm, ⟨12, _⟩ => ⟨S1440x7680, .i32⟩
  | .hbm, ⟨13, _⟩ => ⟨S1440x7680, .i1⟩
  | .hbm, ⟨14, _⟩ => ⟨S_, .i32⟩
  | .hbm, ⟨15, _⟩ => ⟨S1440x7680, .i32⟩
  | .hbm, ⟨16, _⟩ => ⟨S1440x7680, .i32⟩
  | .hbm, ⟨17, _⟩ => ⟨S1440x7680, .i32⟩
  | .hbm, ⟨18, _⟩ => ⟨S1440x7680, .bf16⟩
  | .hbm, ⟨19, _⟩ => ⟨S1x7680, .bf16⟩
  | .hbm, ⟨20, _⟩ => ⟨S1440x7680, .bf16⟩
  | .hbm, ⟨21, _⟩ => ⟨S1440x7680, .bf16⟩
  | .hbm, ⟨22, _⟩ => ⟨S_, .i32⟩
  | .hbm, ⟨23, _⟩ => ⟨S1440x7680, .i32⟩
  | .hbm, ⟨24, _⟩ => ⟨S1440x7680, .i1⟩
  | .hbm, ⟨25, _⟩ => ⟨S_, .i32⟩
  | .hbm, ⟨26, _⟩ => ⟨S1440x7680, .i32⟩
  | .hbm, ⟨27, _⟩ => ⟨S1440x7680, .i32⟩
  | .hbm, ⟨28, _⟩ => ⟨S1440x7680, .i32⟩
  | .hbm, ⟨29, _⟩ => ⟨S1440x7680, .bf16⟩
  | .hbm, ⟨30, _⟩ => ⟨S1x7680, .bf16⟩
  | .hbm, ⟨31, _⟩ => ⟨S1440x7680, .bf16⟩
  | .hbm, ⟨32, _⟩ => ⟨S1440x7680, .bf16⟩
  | .hbm, ⟨33, _⟩ => ⟨S24x1024x1440, .f32⟩
  | .hbm, ⟨34, _⟩ => ⟨S24x1024x1440, .f32⟩
  | .hbm, ⟨35, _⟩ => ⟨S24x1024x1440x1, .f32⟩
  | .hbm, ⟨36, _⟩ => ⟨S24x1024x1440x1, .f32⟩
  | .hbm, ⟨37, _⟩ => ⟨S24x1024x1440x2, .f32⟩
  | .hbm, ⟨38, _⟩ => ⟨S192x128x2880, .f32⟩
  | .hbm, ⟨39, _⟩ => ⟨S192x2880x128, .f32⟩
  | _, _ => ⟨S24x1024x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Transform.lean ====
abbrev S24x1024x2880 : Shape := ⟨3, ![24, 1024, 2880]⟩
abbrev S192x2880x128 : Shape := ⟨3, ![192, 2880, 128]⟩
abbrev S48x48 : Shape := ⟨2, ![48, 48]⟩
abbrev S60x60 : Shape := ⟨2, ![60, 60]⟩
abbrev S1 : Shape := ⟨1, ![1]⟩
abbrev S24x2880x1024 : Shape := ⟨3, ![24, 2880, 1024]⟩
abbrev S1x1 : Shape := ⟨2, ![1, 1]⟩
abbrev S24x48x1024 : Shape := ⟨3, ![24, 48, 1024]⟩
abbrev S1x24576 : Shape := ⟨2, ![1, 24576]⟩
abbrev S144x144 : Shape := ⟨2, ![144, 144]⟩
abbrev S4x80x192 : Shape := ⟨3, ![4, 80, 192]⟩
abbrev S1x2880x256 : Shape := ⟨3, ![1, 2880, 256]⟩
abbrev S2x2880x128 : Shape := ⟨3, ![2, 2880, 128]⟩
abbrev S1x48x256 : Shape := ⟨3, ![1, 48, 256]⟩
abbrev S1x256 : Shape := ⟨2, ![1, 256]⟩
abbrev S48x288 : Shape := ⟨2, ![48, 288]⟩
abbrev S4x64x240 : Shape := ⟨3, ![4, 64, 240]⟩
abbrev S2x64x384 : Shape := ⟨3, ![2, 64, 384]⟩
abbrev S60x144x256 : Shape := ⟨3, ![60, 144, 256]⟩
abbrev S60x48x256 : Shape := ⟨3, ![60, 48, 256]⟩
abbrev S2x3328x128 : Shape := ⟨3, ![2, 3328, 128]⟩
abbrev S1x60x60 : Shape := ⟨3, ![1, 60, 60]⟩
abbrev S208x128 : Shape := ⟨2, ![208, 128]⟩
abbrev S1x208x128 : Shape := ⟨3, ![1, 208, 128]⟩
abbrev S1x64x256 : Shape := ⟨3, ![1, 64, 256]⟩
abbrev S64x256 : Shape := ⟨2, ![64, 256]⟩
abbrev S16x256 : Shape := ⟨2, ![16, 256]⟩
abbrev S80x256 : Shape := ⟨2, ![80, 256]⟩
abbrev S1x64x240 : Shape := ⟨3, ![1, 64, 240]⟩
abbrev S64x240 : Shape := ⟨2, ![64, 240]⟩
abbrev S240x256 : Shape := ⟨2, ![240, 256]⟩
abbrev S60x128 : Shape := ⟨2, ![60, 128]⟩
abbrev S1x60x128 : Shape := ⟨3, ![1, 60, 128]⟩
abbrev S1x80x256 : Shape := ⟨3, ![1, 80, 256]⟩
abbrev S1x2880x128 : Shape := ⟨3, ![1, 2880, 128]⟩
abbrev S2880x128 : Shape := ⟨2, ![2880, 128]⟩
abbrev S48x128 : Shape := ⟨2, ![48, 128]⟩
abbrev S48x256 : Shape := ⟨2, ![48, 256]⟩
abbrev S144x256 : Shape := ⟨2, ![144, 256]⟩
abbrev S1x144x256 : Shape := ⟨3, ![1, 144, 256]⟩
abbrev S288x256 : Shape := ⟨2, ![288, 256]⟩
abbrev S1x48x128 : Shape := ⟨3, ![1, 48, 128]⟩
abbrev S256 : Shape := ⟨1, ![256]⟩
abbrev S80x192 : Shape := ⟨2, ![80, 192]⟩
abbrev S1x3328x128 : Shape := ⟨3, ![1, 3328, 128]⟩
abbrev S3328x128 : Shape := ⟨2, ![3328, 128]⟩
abbrev S64x128 : Shape := ⟨2, ![64, 128]⟩
abbrev S1x64x384 : Shape := ⟨3, ![1, 64, 384]⟩
abbrev S64x384 : Shape := ⟨2, ![64, 384]⟩
abbrev S384x256 : Shape := ⟨2, ![384, 256]⟩
abbrev S56x256 : Shape := ⟨2, ![56, 256]⟩
abbrev S8x256 : Shape := ⟨2, ![8, 256]⟩
abbrev S192x256 : Shape := ⟨2, ![192, 256]⟩
abbrev S1x240x256 : Shape := ⟨3, ![1, 240, 256]⟩
abbrev S1x80x192 : Shape := ⟨3, ![1, 80, 192]⟩
abbrev S1x32x128 : Shape := ⟨3, ![1, 32, 128]⟩
abbrev S32x128 : Shape := ⟨2, ![32, 128]⟩
abbrev S32x256 : Shape := ⟨2, ![32, 256]⟩
abbrev S1x32x256 : Shape := ⟨3, ![1, 32, 256]⟩
abbrev S24x1024x48 : Shape := ⟨3, ![24, 1024, 48]⟩

abbrev nBuf : Space → Nat
  | .hbm => 17
  | .vmem => 27
  | .smem => 1
  | _ => 0

abbrev bufTy : (tb : Table) → Fin (tcTables nBuf tb) → BufTy
  | .hbm, ⟨0, _⟩ => ⟨S24x1024x2880, .bf16⟩
  | .hbm, ⟨1, _⟩ => ⟨S192x2880x128, .f32⟩
  | .hbm, ⟨2, _⟩ => ⟨S48x48, .f32⟩
  | .hbm, ⟨3, _⟩ => ⟨S60x60, .f32⟩
  | .hbm, ⟨4, _⟩ => ⟨S1, .f32⟩
  | .hbm, ⟨5, _⟩ => ⟨S24x2880x1024, .bf16⟩
  | .hbm, ⟨6, _⟩ => ⟨S1x1, .f32⟩
  | .hbm, ⟨7, _⟩ => ⟨S48x48, .f32⟩
  | .hbm, ⟨8, _⟩ => ⟨S60x60, .f32⟩
  | .hbm, ⟨9, _⟩ => ⟨S24x2880x1024, .bf16⟩
  | .hbm, ⟨10, _⟩ => ⟨S24x2880x1024, .i8⟩
  | .hbm, ⟨11, _⟩ => ⟨S24x48x1024, .f32⟩
  | .hbm, ⟨12, _⟩ => ⟨S1x24576, .f32⟩
  | .hbm, ⟨13, _⟩ => ⟨S144x144, .f32⟩
  | .hbm, ⟨14, _⟩ => ⟨S4x80x192, .f32⟩
  | .hbm, ⟨15, _⟩ => ⟨S24x1024x2880, .i8⟩
  | .hbm, ⟨16, _⟩ => ⟨S24x1024x48, .f32⟩
  | .local _ .vmem, ⟨0, _⟩ => ⟨S1x2880x256, .bf16⟩
  | .local _ .vmem, ⟨1, _⟩ => ⟨S1x2880x256, .bf16⟩
  | .local _ .vmem, ⟨2, _⟩ => ⟨S2x2880x128, .f32⟩
  | .local _ .vmem, ⟨3, _⟩ => ⟨S2x2880x128, .f32⟩
  | .local _ .vmem, ⟨4, _⟩ => ⟨S48x48, .f32⟩
  | .local _ .vmem, ⟨5, _⟩ => ⟨S48x48, .f32⟩
  | .local _ .vmem, ⟨6, _⟩ => ⟨S60x60, .f32⟩
  | .local _ .vmem, ⟨7, _⟩ => ⟨S60x60, .f32⟩
  | .local _ .vmem, ⟨8, _⟩ => ⟨S1x2880x256, .bf16⟩
  | .local _ .vmem, ⟨9, _⟩ => ⟨S1x2880x256, .bf16⟩
  | .local _ .vmem, ⟨10, _⟩ => ⟨S1x2880x256, .i8⟩
  | .local _ .vmem, ⟨11, _⟩ => ⟨S1x2880x256, .i8⟩
  | .local _ .vmem, ⟨12, _⟩ => ⟨S1x48x256, .f32⟩
  | .local _ .vmem, ⟨13, _⟩ => ⟨S1x48x256, .f32⟩
  | .local _ .vmem, ⟨14, _⟩ => ⟨S1x256, .f32⟩
  | .local _ .vmem, ⟨15, _⟩ => ⟨S1x256, .f32⟩
  | .local _ .vmem, ⟨16, _⟩ => ⟨S144x144, .f32⟩
  | .local _ .vmem, ⟨17, _⟩ => ⟨S4x80x192, .f32⟩
  | .local _ .vmem, ⟨18, _⟩ => ⟨S48x288, .bf16⟩
  | .local _ .vmem, ⟨19, _⟩ => ⟨S48x288, .bf16⟩
  | .local _ .vmem, ⟨20, _⟩ => ⟨S4x64x240, .bf16⟩
  | .local _ .vmem, ⟨21, _⟩ => ⟨S2x64x384, .bf16⟩
  | .local _ .vmem, ⟨22, _⟩ => ⟨S2x2880x128, .f32⟩
  | .local _ .vmem, ⟨23, _⟩ => ⟨S60x144x256, .bf16⟩
  | .local _ .vmem, ⟨24, _⟩ => ⟨S60x48x256, .f32⟩
  | .local _ .vmem, ⟨25, _⟩ => ⟨S2x3328x128, .f32⟩
  | .local _ .vmem, ⟨26, _⟩ => ⟨S2x2880x128, .f32⟩
  | .local _ .smem, ⟨0, _⟩ => ⟨S1x1, .f32⟩
  | _, _ => ⟨S24x1024x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v5 : Ref sig .tc := ⟨.hbm, 15, rfl⟩
abbrev main_v6 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [BitOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2880x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2880x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S48x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S60x60 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S60x60 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2880x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2880x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x48x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S144x144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x80x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== TransformIdeal.lean ====
variable {F : FTy → Type} [FloatOps F]
-- ==== PlainIdeal.lean ====
abbrev S24x1024x2880 : Shape := ⟨3, ![24, 1024, 2880]⟩
abbrev S192x2880x128 : Shape := ⟨3, ![192, 2880, 128]⟩
abbrev S48x48 : Shape := ⟨2, ![48, 48]⟩
abbrev S60x60 : Shape := ⟨2, ![60, 60]⟩
abbrev S1 : Shape := ⟨1, ![1]⟩
abbrev S24x1024x48x60 : Shape := ⟨4, ![24, 1024, 48, 60]⟩
abbrev S48x24x1024x60 : Shape := ⟨4, ![48, 24, 1024, 60]⟩
abbrev S_ : Shape := ⟨0, ![]⟩
abbrev S24x1024x48 : Shape := ⟨3, ![24, 1024, 48]⟩
abbrev S1x1x1 : Shape := ⟨3, ![1, 1, 1]⟩
abbrev S24x1024x48x1 : Shape := ⟨4, ![24, 1024, 48, 1]⟩

abbrev nBuf : Space → Nat
  | .hbm => 41
  | .vmem => 0
  | .smem => 0
  | _ => 0

abbrev bufTy : (tb : Table) → Fin (tcTables nBuf tb) → BufTy
  | .hbm, ⟨0, _⟩ => ⟨S24x1024x2880, .bf16⟩
  | .hbm, ⟨1, _⟩ => ⟨S192x2880x128, .f32⟩
  | .hbm, ⟨2, _⟩ => ⟨S48x48, .f32⟩
  | .hbm, ⟨3, _⟩ => ⟨S60x60, .f32⟩
  | .hbm, ⟨4, _⟩ => ⟨S1, .f32⟩
  | .hbm, ⟨5, _⟩ => ⟨S24x1024x2880, .f32⟩
  | .hbm, ⟨6, _⟩ => ⟨S24x1024x48x60, .f32⟩
  | .hbm, ⟨7, _⟩ => ⟨S24x1024x48x60, .f32⟩
  | .hbm, ⟨8, _⟩ => ⟨S48x24x1024x60, .f32⟩
  | .hbm, ⟨9, _⟩ => ⟨S24x1024x48x60, .f32⟩
  | .hbm, ⟨10, _⟩ => ⟨S24x1024x48x60, .f32⟩
  | .hbm, ⟨11, _⟩ => ⟨S_, .f32⟩
  | .hbm, ⟨12, _⟩ => ⟨S24x1024x48, .f32⟩
  | .hbm, ⟨13, _⟩ => ⟨S_, .f32⟩
  | .hbm, ⟨14, _⟩ => ⟨S24x1024x48, .f32⟩
  | .hbm, ⟨15, _⟩ => ⟨S24x1024x48, .i1⟩
  | .hbm, ⟨16, _⟩ => ⟨S1x1x1, .f32⟩
  | .hbm, ⟨17, _⟩ => ⟨S24x1024x48, .f32⟩
  | .hbm, ⟨18, _⟩ => ⟨S24x1024x48, .f32⟩
  | .hbm, ⟨19, _⟩ => ⟨S_, .f32⟩
  | .hbm, ⟨20, _⟩ => ⟨S24x1024x48, .f32⟩
  | .hbm, ⟨21, _⟩ => ⟨S24x1024x48, .f32⟩
  | .hbm, ⟨22, _⟩ => ⟨S_, .f32⟩
  | .hbm, ⟨23, _⟩ => ⟨S_, .f32⟩
  | .hbm, ⟨24, _⟩ => ⟨S24x1024x48, .f32⟩
  | .hbm, ⟨25, _⟩ => ⟨S24x1024x48, .f32⟩
  | .hbm, ⟨26, _⟩ => ⟨S24x1024x48x1, .f32⟩
  | .hbm, ⟨27, _⟩ => ⟨S24x1024x48x60, .f32⟩
  | .hbm, ⟨28, _⟩ => ⟨S24x1024x48x60, .f32⟩
  | .hbm, ⟨29, _⟩ => ⟨S24x1024x48x60, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S24x1024x48x60, .f32⟩
  | .hbm, ⟨34, _⟩ => ⟨S24x1024x48x60, .f32⟩
  | .hbm, ⟨35, _⟩ => ⟨S_, .f32⟩
  | .hbm, ⟨36, _⟩ => ⟨S24x1024x48x60, .f32⟩
  | .hbm, ⟨37, _⟩ => ⟨S24x1024x48x60, .f32⟩
  | .hbm, ⟨38, _⟩ => ⟨S24x1024x48x60, .i32⟩
  | .hbm, ⟨39, _⟩ => ⟨S24x1024x48x60, .i8⟩
  | .hbm, ⟨40, _⟩ => ⟨S24x1024x2880, .i8⟩
  | _, _ => ⟨S24x1024x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_cst_4 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Proof.Transform.Runs.lean ====
/-
  What the two runs of the transform call (first point, later points) share: the host lines around the call, the blocks of its windows, the branch condition over the points, the staging and scratch buffers. The outputs are not named here.
-/
module

public import proofs.«01_k».proof.Proof.Gen.Transform.Launch
public import proofs.«01_k».proof.Proof.Gen.Transform.Skeleton
public import proofs.«01_k».proof.Proof.Gen.Transform.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Transform.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1430000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Transform`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 2 rfl).trans ((hA c 2).trans (V_main_arg1 m c)),
      (Pipeline.RDat.FramePostR.arr_in h c 3 rfl).trans ((hA c 3).trans (V_main_arg2 m c)),
      (Pipeline.RDat.FramePostR.arr_in h c 5 rfl).trans ((hA c 5).trans (V_main_arg3 m c)),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 4 % 24 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 96 = 0)

/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2880x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x2880x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x48 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x48 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S60x60 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S60x60 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2880x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2880x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x48x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S144x144 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x80x192 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S48x288 .bf16 := Memref.whole cc0_scratch0
abbrev scM0_1 : Memref sig .tc .vmem S48x288 .bf16 := Memref.whole cc0_scratch1
abbrev scM0_2 : Memref sig .tc .vmem S4x64x240 .bf16 := Memref.whole cc0_scratch2
abbrev scM0_3 : Memref sig .tc .vmem S2x64x384 .bf16 := Memref.whole cc0_scratch3
abbrev scM0_4 : Memref sig .tc .vmem S2x2880x128 .f32 := Memref.whole cc0_scratch4
abbrev scM0_5 : Memref sig .tc .vmem S60x144x256 .bf16 := Memref.whole cc0_scratch5
abbrev scM0_6 : Memref sig .tc .vmem S60x48x256 .f32 := Memref.whole cc0_scratch6
abbrev scM0_7 : Memref sig .tc .vmem S2x3328x128 .f32 := Memref.whole cc0_scratch7
abbrev scM0_8 : Memref sig .tc .vmem S2x2880x128 .f32 := Memref.whole cc0_scratch8
/-- The scratch `arg15` the kernel carries between points, as a view: what it holds is stated through it. -/
abbrev VS0_0 : View sig .tc .vmem S48x288 .bf16 := scM0_0.view
/-- The scratch `arg16` the kernel carries between points, as a view: what it holds is stated through it. -/
abbrev VS0_1 : View sig .tc .vmem S48x288 .bf16 := scM0_1.view
/-- The scratch `arg17` the kernel carries between points, as a view: what it holds is stated through it. -/
abbrev VS0_2 : View sig .tc .vmem S4x64x240 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.Transform.Gen

end
-- ==== Proof.Transform.RunA.lean ====
/-
  The whole body of the transform call at the first grid point, run by the symbolic executor: it ends, and every output is handed back at some contents.
-/
module

public import proofs.«01_k».proof.Proof.Transform.Runs

@[expose] public section

-- membership in a rectangle of production extents (`View.cover_of_tiled`): the elaborator's structural look
-- recurses once per coordinate of the long axes
set_option maxRecDepth 16384

noncomputable section

namespace Cert.Transform.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 17120000 in set_option sl_exec.squeezeSlice true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9, 10, 11, 12) at anything, handed back at some contents nothing names. -/
noncomputable def kernelRun0_A (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) :
    Σ' (LS0 : List (View.Piece (Elt F) S48x288 .bf16)), Σ' (LS1 : List (View.Piece (Elt F) S48x288 .bf16)), { LS2 : List (View.Piece (Elt F) S4x64x240 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_transform i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    simp only [cc0_transform_eq_skeleton]; unfold cc0_transform_skel
    simp only [k0_part263_eq_skeleton, k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part264_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part265_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part266_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Transform.Gen

end
-- ==== Proof.Transform.RunB.lean ====
/-
  The whole body of the transform call at a later grid point, run by the symbolic executor: it ends, and every output is handed back at some contents.
-/
module

public import proofs.«01_k».proof.Proof.Transform.RunA

@[expose] public section

-- membership in a rectangle of production extents (`View.cover_of_tiled`): the elaborator's structural look
-- recurses once per coordinate of the long axes
set_option maxRecDepth 16384

noncomputable section

namespace Cert.Transform.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16696000 in set_option sl_exec.squeezeSlice true in
/-- What the body's stores leave in each output's staging memref, as pieces (last first) IN CASE B (`scf.if` 0 not taken: points 1, 2, … 95: 95 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9, 10, 11, 12) at anything, handed back at some contents nothing names. -/
noncomputable def kernelRun0_B (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : ¬cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) (xs0 : Vec F S48x288 .bf16) (xs1 : Vec F S48x288 .bf16) (xs2 : Vec F S4x64x240 .bf16) :
    Σ' (LS0 : List (View.Piece (Elt F) S48x288 .bf16)), Σ' (LS1 : List (View.Piece (Elt F) S48x288 .bf16)), { LS2 : List (View.Piece (Elt F) S4x64x240 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_transform i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], [], fun E K => ?run⟩
  case run =>
    simp only [cc0_transform_eq_skeleton]; unfold cc0_transform_skel
    simp only [k0_part263_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part264_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part265_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part266_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg15.eq_unread hfs0; obtain rfl := harg16.eq_unread hfs1; obtain rfl := harg17.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Transform.Gen

end
-- ==== Proof.Transform.Forget.lean ====
/-
  The frame of the transform program as printed: it ends with its arguments unchanged and every counter at zero. Nothing is stated of the outputs.
-/
module

public import proofs.«01_k».proof.Proof.Transform.RunB
public import Idealize.ShloMosaic.Lib.Claim

@[expose] public section

-- membership in a rectangle of production extents (`View.cover_of_tiled`): the elaborator's structural look
-- recurses once per coordinate of the long axes
set_option maxRecDepth 16384

noncomputable section

namespace Cert.Transform.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg15`, which the kernel carries between points, cover it: 1 piece of `S48x288` tiling it (Lib/Ring.lean `Piece.tiledL`). -/
theorem scover0_A_0 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) (y : S48x288.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).1 S48x288.size (by sl_kernel_rfl) y

/-- What case A leaves in scratch `arg15`: its pieces read back over junk. -/
def sout0_A_0 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) : Vec F S48x288 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).1)

/-- Case A's pieces for scratch `arg16`, which the kernel carries between points, cover it: 1 piece of `S48x288` tiling it (Lib/Ring.lean `Piece.tiledL`). -/
theorem scover0_A_1 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) (y : S48x288.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).2.1 S48x288.size (by sl_kernel_rfl) y

/-- What case A leaves in scratch `arg16`: its pieces read back over junk. -/
def sout0_A_1 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) : Vec F S48x288 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).2.1)

/-- Case A's pieces for scratch `arg17`, which the kernel carries between points, cover it: one of them a store of the WHOLE buffer (Lib/Ring.lean `sl_whole_mem`). -/
theorem scover0_A_2 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) (y : S4x64x240.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).2.2.1 (by sl_whole_mem) y

/-- What case A leaves in scratch `arg17`: its pieces read back over junk. -/
def sout0_A_2 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) : Vec F S4x64x240 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6).2.2.1)

/-- Case B stores nothing into scratch `arg15`: it holds what the point before left. -/
def sout0_B_0 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : ¬cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) (xs0 : Vec F S48x288 .bf16) (xs1 : Vec F S48x288 .bf16) (xs2 : Vec F S4x64x240 .bf16) : Vec F S48x288 .bf16 := xs0

/-- Case B stores nothing into scratch `arg16`: it holds what the point before left. -/
def sout0_B_1 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : ¬cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) (xs0 : Vec F S48x288 .bf16) (xs1 : Vec F S48x288 .bf16) (xs2 : Vec F S4x64x240 .bf16) : Vec F S48x288 .bf16 := xs1

/-- Case B stores nothing into scratch `arg17`: it holds what the point before left. -/
def sout0_B_2 (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : ¬cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) (xs0 : Vec F S48x288 .bf16) (xs1 : Vec F S48x288 .bf16) (xs2 : Vec F S4x64x240 .bf16) : Vec F S4x64x240 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S48x288 .bf16 × Vec F S48x288 .bf16 × Vec F S4x64x240 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 96 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 96 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 96 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  cases n with
  | zero => exact absurd rfl hz
  | succ n => rfl

/-! ## The pipeline's proof data -/

/-- The output windows this certificate FORGETS (7, 8, 9, 10, 11, 12): nothing reads what the kernel leaves in them, so nothing
    of it is named (Lib/Pipeline/Dat.lean `Dat.toRForget`). -/
def forgets0 : Fin 13 → Bool := fun w => w.val == 7 || w.val == 8 || w.val == 9 || w.val == 10 || w.val == 11 || w.val == 12

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 96 := lt_of_lt_of_eq t.isLt (show cfg0.N = 96 from N_0)
  by_cases h0 : t.val % 96 = 0
  · by_cases hz : t.val = 0
    · rw [PhiS_castSucc m c t, PhiS_zero m c _ _ hz, PhiA0_eq]
      rw [outsAt0_A m c t h0]
      unfold sout0_A_0 sout0_A_1 sout0_A_2; (try dsimp only)
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, ⟨%es0, HS0⟩, ⟨%es1, HS1⟩, ⟨%es2, HS2⟩, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _)
          isplitl [HS3]
          · iexact HS3
          isplitl [HS4]
          · iexact HS4
          isplitl [HS5]
          · iexact HS5
          isplitl [HS6]
          · iexact HS6
          isplitl [HS7]
          · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · exfalso; have hN : t.val < 96 := lt_of_lt_of_eq t.isLt (show cfg0.N = 96 from N_0); omega
  · by_cases hz : t.val = 0
    · exfalso; have hN : t.val < 96 := lt_of_lt_of_eq t.isLt (show cfg0.N = 96 from N_0); omega
    · rw [PhiS_castSucc m c t, PhiS_pos m c _ _ hz]
      rw [outsAt0_B m c t h0]
      unfold sout0_B_0 sout0_B_1 sout0_B_2; (try dsimp only)
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    isplitl [HS7]
    · iexact HS7
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9, 10, 11, 12) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Transform`'s statement (Defs.lean) at any `F` — Proof.lean cites it at `Bits`:
    `theorem Cert.Proof.claim : Cert.Claim := ⟨Cert.Transform.Gen.facts, fun m ρ _ => Cert.Transform.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Transform.Gen

end
-- ==== Proof.Ideal.Runs.lean ====
/-
  What the two runs of the transform call share: the branch condition over the grid points, the staging and scratch
  buffers, and the rows of the `c4` scratch that stay zero from the first point on.
-/
module

public import proofs.«01_k».proof.Proof.Gen.TransformIdeal.Frame
public import proofs.«01_k».proof.Proof.Gen.TransformIdeal.Skeleton

@[expose] public section

-- membership in a rectangle of production extents (`View.cover_of_tiled`): the elaborator's structural look
-- recurses once per coordinate of the long axes
set_option maxRecDepth 16384

noncomputable section

namespace Cert.TransformIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 4 % 24 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 96 = 0)

/-! ## The kernel body on any staging memrefs: a subtype the run finds -/

/-- One staging buffer of output window 7, through which its contents are stated (`View.read_writes_of_cover`: the
    choice does not matter). -/
abbrev VO0_7 : View sig .tc .vmem S1x2880x256 .bf16 := (Memref.whole cc0_stg7_0 : Memref sig .tc .vmem S1x2880x256 .bf16).view
/-- One staging buffer of output window 8, through which its contents are stated (`View.read_writes_of_cover`: the
    choice does not matter). -/
abbrev VO0_8 : View sig .tc .vmem S1x2880x256 .i8 := (Memref.whole cc0_stg8_0 : Memref sig .tc .vmem S1x2880x256 .i8).view
/-- One staging buffer of output window 9, through which its contents are stated (`View.read_writes_of_cover`: the
    choice does not matter). -/
abbrev VO0_9 : View sig .tc .vmem S1x48x256 .f32 := (Memref.whole cc0_stg9_0 : Memref sig .tc .vmem S1x48x256 .f32).view
/-- One staging buffer of output window 10, through which its contents are stated (`View.read_writes_of_cover`: the
    choice does not matter). -/
abbrev VO0_10 : View sig .tc .vmem S1x256 .f32 := (Memref.whole cc0_stg10_0 : Memref sig .tc .vmem S1x256 .f32).view
/-- One staging buffer of output window 11, through which its contents are stated (`View.read_writes_of_cover`: the
    choice does not matter). -/
abbrev VO0_11 : View sig .tc .vmem S144x144 .f32 := (Memref.whole cc0_stg11_0 : Memref sig .tc .vmem S144x144 .f32).view
/-- One staging buffer of output window 12, through which its contents are stated (`View.read_writes_of_cover`: the
    choice does not matter). -/
abbrev VO0_12 : View sig .tc .vmem S4x80x192 .f32 := (Memref.whole cc0_stg12_0 : Memref sig .tc .vmem S4x80x192 .f32).view
/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2880x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x2880x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x48 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x48 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S60x60 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S60x60 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2880x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2880x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x48x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S144x144 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x80x192 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S48x288 .bf16 := Memref.whole cc0_scratch0
abbrev scM0_1 : Memref sig .tc .vmem S48x288 .bf16 := Memref.whole cc0_scratch1
abbrev scM0_2 : Memref sig .tc .vmem S4x64x240 .bf16 := Memref.whole cc0_scratch2
abbrev scM0_3 : Memref sig .tc .vmem S2x64x384 .bf16 := Memref.whole cc0_scratch3
abbrev scM0_4 : Memref sig .tc .vmem S2x2880x128 .f32 := Memref.whole cc0_scratch4
abbrev scM0_5 : Memref sig .tc .vmem S60x144x256 .bf16 := Memref.whole cc0_scratch5
abbrev scM0_6 : Memref sig .tc .vmem S60x48x256 .f32 := Memref.whole cc0_scratch6
abbrev scM0_7 : Memref sig .tc .vmem S2x3328x128 .f32 := Memref.whole cc0_scratch7
abbrev scM0_8 : Memref sig .tc .vmem S2x2880x128 .f32 := Memref.whole cc0_scratch8
/-- The scratch `arg15` the kernel carries between points, as a view: what it holds is stated through it. -/
abbrev VS0_0 : View sig .tc .vmem S48x288 .bf16 := scM0_0.view
/-- The scratch `arg16` the kernel carries between points, as a view: what it holds is stated through it. -/
abbrev VS0_1 : View sig .tc .vmem S48x288 .bf16 := scM0_1.view
/-- The scratch `arg17` the kernel carries between points, as a view: what it holds is stated through it. -/
abbrev VS0_2 : View sig .tc .vmem S4x64x240 .bf16 := scM0_2.view
/-- The scratch `arg18` the kernel carries between points, as a view: what it holds is stated through it. -/
abbrev VS0_3 : View sig .tc .vmem S2x64x384 .bf16 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The two pieces the first point stores into the rows of the `c4` scratch that no later store touches: zeros. -/
abbrev zeroRows : List (View.Piece (Elt F) S2x3328x128 .f32) :=
  [⟨Rect.unit ![1, 3120, 0] S1x208x128.size inb_S2x3328x128_S1x208x128_1_3120_0, k0_pay43 (F := F)⟩,
   ⟨Rect.unit ![0, 3120, 0] S1x208x128.size inb_S2x3328x128_S1x208x128_0_3120_0, k0_pay42 (F := F)⟩]

end Cert.TransformIdeal.Gen

end
-- ==== Proof.Ideal.Spec.lean ====
/-
  The body of the transform call at one grid point, written once with its loops as loops: what the unrolled body stores, as
  lists of pieces over the loop's variable.
-/
module

public import proofs.«01_k».proof.Proof.Ideal.Runs

@[expose] public section

set_option maxRecDepth 16384

noncomputable section

namespace Cert.TransformIdeal.Gen

open Idealize.ShloMosaic Idealize.ShloMosaic.TcCoe Idealize.SL.Sem

variable {F : FTy → Type} [FloatOps F]

/-- The sixty columns of the second factor, last first. -/
def down60 : List (Fin 60) := [59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
/-- The columns after the first, in order. -/
def up60 : List (Fin 60) := [1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59]
/-- The ninety blocks of 32 rows, last first. -/
def down90 : List (Fin 90) := [89, 88, 87, 86, 85, 84, 83, 82, 81, 80, 79, 78, 77, 76, 75, 74, 73, 72, 71, 70, 69, 68, 67, 66, 65, 64, 63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
/-- The twelve groups of four windows, last first. -/
def down12 : List (Fin 12) := [11, 10, 9, 8, 7, 6, 5, 4, 3, 2, 1, 0]

theorem mem_down60 : ∀ k : Fin 60, k ∈ down60 := by decide
theorem mem_down90 : ∀ k : Fin 90, k ∈ down90 := by decide
theorem mem_down12 : ∀ k : Fin 12, k ∈ down12 := by decide

/-! ## The first loop: the product with the second factor -/

theorem inb_a (c : Fin 2) (q : Fin 12) (r : Fin 4) : ∀ a, (![c.val, 240 * q.val + 60 * r.val, 0] : Fin 3 → ℕ) a + S1x60x128.size a ≤ S2x2880x128.size a := by
  intro a
  match a with
  | ⟨0, _⟩ => show c.val + 1 ≤ 2; omega
  | ⟨1, _⟩ => show 240 * q.val + 60 * r.val + 60 ≤ 2880; omega
  | ⟨2, _⟩ => show 0 + 128 ≤ 128; omega

/-- The product's first 128 tokens, the 60 rows that are kept. -/
def lowHalf (W : FVec F S64x256 .f32) : FVec F S1x60x128 .f32 :=
  shapeCast S1x60x128 (extractStridedSlice S60x128 ![0, 0] W slices_S64x256_o0_0_S60x128) shapeCasts_S60x128_S1x60x128
/-- The product's other 128 tokens. -/
def highHalf (W : FVec F S64x256 .f32) : FVec F S1x60x128 .f32 :=
  shapeCast S1x60x128 (extractStridedSlice S60x128 ![0, 128] W slices_S64x256_o0_128_S60x128) shapeCasts_S60x128_S1x60x128

/-- The two pieces one window leaves. -/
def aPair (q : Fin 12) (r : Fin 4) (W : FVec F S64x256 .f32) : List (View.Piece (Elt F) S2x2880x128 .f32) :=
  [⟨Rect.unit ![(1 : Fin 2).val, 240 * q.val + 60 * r.val, 0] S1x60x128.size (inb_a 1 q r), highHalf W⟩,
   ⟨Rect.unit ![(0 : Fin 2).val, 240 * q.val + 60 * r.val, 0] S1x60x128.size (inb_a 0 q r), lowHalf W⟩]

/-- The windows' products: group `q` has the windows of rows `4q` to `4q + 3`. -/
structure Wins (F : FTy → Type) [FloatOps F] where
  x0 : Fin 12 → Vec F S1x64x256 .bf16
  x1 : Fin 12 → Vec F S1x80x256 .bf16
  x2 : Fin 12 → Vec F S1x80x256 .bf16
  x3 : Fin 12 → Vec F S1x64x256 .bf16
  p0 : Vec F S1x64x240 .bf16
  p1 : Vec F S1x64x240 .bf16
  p2 : Vec F S1x64x240 .bf16
  p3 : Vec F S1x64x240 .bf16

/-- What the first loop leaves, last first. -/
def aList (w : Wins F) : List (View.Piece (Elt F) S2x2880x128 .f32) :=
  down12.flatMap fun q => aPair q 3 (k0_pay44 (w.x3 q) (w.p1)) ++ (aPair q 2 (k0_pay47 (w.x2 q) w.p2)
    ++ (aPair q 1 (k0_pay47 (w.x1 q) w.p3) ++ aPair q 0 (k0_pay44 (w.x0 q) w.p0)))

/-! ## The second loop: the product with the first factor -/

theorem inb_str (k : Fin 60) : ∀ a, S48x128.size a = 0 ∨ (![k.val, 0] : Fin 2 → ℕ) a + (![60, 1] : Fin 2 → ℕ) a * (S48x128.size a - 1) < S2880x128.size a := by
  intro a
  match a with
  | ⟨0, _⟩ => right; show k.val + 60 * (48 - 1) < 2880; omega
  | ⟨1, _⟩ => right; show 0 + 1 * (128 - 1) < 128; omega

theorem inb_c (c : Fin 2) : ∀ a, (![c.val, 0, 0] : Fin 3 → ℕ) a + S1x2880x128.size a ≤ S2x2880x128.size a := by
  intro a
  match a with
  | ⟨0, _⟩ => show c.val + 1 ≤ 2; omega
  | ⟨1, _⟩ => show 0 + 2880 ≤ 2880; omega
  | ⟨2, _⟩ => show 0 + 128 ≤ 128; omega

/-- Column `k` of chunk `c`: rows `k, k + 60, …`. -/
def strideLoad (k : Fin 60) : LoadRect S2880x128 := { off := ![k.val, 0], size := S48x128.size, stride := ![60, 1], inb := inb_str k }
/-- The same rows as a rectangle. -/
def strideRect (k : Fin 60) : Rect S2880x128 :=
  { off := ![k.val, 0], size := S48x128.size, stride := ![60, 1], inb := inb_str k, stride_pos := spos_60_1 }

theorem lift_numel (k : Fin 60) (h0) (hs) : (strideLoad k).shape.numel = ((strideLoad k).consLift S1x2880x128.size h0 hs).shape.numel :=
  LoadRect.numel_consLift _ _ h0 hs

/-- A column of the first loop's products, read with stride 60. -/
def column (L : List (View.Piece (Elt F) S2x2880x128 .f32)) (c : Fin 2) (k : Fin 60) : Vec F S48x128 .f32 :=
  LoadRect.valAlong (lr := strideLoad k) (LR := (Rect.unit (s := S2x2880x128) ![c.val, 0, 0] S1x2880x128.size (inb_c c)).withinL
      ((strideLoad k).consLift S1x2880x128.size rfl fun _ => rfl) fun _ => rfl) (lift_numel k rfl fun _ => rfl)
    (scM0_4.view.readCov L ((Rect.unit (s := S2x2880x128) ![c.val, 0, 0] S1x2880x128.size (inb_c c)).withinL
      ((strideLoad k).consLift S1x2880x128.size rfl fun _ => rfl) fun _ => rfl))

/-- The transformed tokens' column `k`. -/
def xtCol (L : List (View.Piece (Elt F) S2x2880x128 .f32)) (P1 : Vec F S48x288 .bf16) (k : Fin 60) : FVec F S48x256 .f32 :=
  k0_pay250 (column L 0 k) (column L 1 k) P1

theorem inb_xt (k : Fin 60) : ∀ a, (![k.val, 0, 0] : Fin 3 → ℕ) a + S1x48x256.size a ≤ S60x48x256.size a := by
  intro a
  match a with
  | ⟨0, _⟩ => show k.val + 1 ≤ 60; omega
  | ⟨1, _⟩ => show 0 + 48 ≤ 48; omega
  | ⟨2, _⟩ => show 0 + 256 ≤ 256; omega

/-- What the second loop leaves of the transformed tokens, last first. -/
def xtList (L : List (View.Piece (Elt F) S2x2880x128 .f32)) (P1 : Vec F S48x288 .bf16) : List (View.Piece (Elt F) S60x48x256 .f32) :=
  down60.map fun k => ⟨Rect.unit ![k.val, 0, 0] S1x48x256.size (inb_xt k), shapeCast S1x48x256 (xtCol L P1 k) shapeCasts_S48x256_S1x48x256⟩

/-- The largest magnitude over the columns. -/
def rowMax (L : List (View.Piece (Elt F) S2x2880x128 .f32)) (P1 : Vec F S48x288 .bf16) : FVec F S48x256 .f32 :=
  up60.foldl (fun acc k => maximumf acc (absf (xtCol L P1 k))) (absf (xtCol L P1 0))

/-- The quantiser's scale from the largest magnitude. -/
def scaleOf (v0 : Elt F .f32) (M : FVec F S48x256 .f32) : FVec F S48x256 .f32 :=
  select (cmpf .oeq M (broadcast S48x256 (Scalar.ofBits .f32 0x00000000#32 : F .f32))) (broadcast S48x256 (Scalar.ofBits .f32 0x3F800000#32 : F .f32))
    (divf (mulf (broadcast S48x256 v0) M) (broadcast S48x256 (Scalar.ofBits .f32 0x40E00000#32 : F .f32)))

/-- What the body leaves of the scales. -/
def sList (v0 : Elt F .f32) (L : List (View.Piece (Elt F) S2x2880x128 .f32)) (P1 : Vec F S48x288 .bf16) : List (View.Piece (Elt F) S1x48x256 .f32) :=
  [⟨Rect.unit ![0, 0, 0] S1x48x256.size inb_S1x48x256_S1x48x256_0_0_0,
    shapeCast S1x48x256 (scaleOf v0 (rowMax L P1)) shapeCasts_S48x256_S1x48x256⟩]

/-! ## The third loop: the codes -/

/-- Column `k` of the transformed tokens, read back. -/
def xtRead (X : List (View.Piece (Elt F) S60x48x256 .f32)) (k : Fin 60) : Vec F S1x48x256 .f32 :=
  scM0_6.view.readCov X (Rect.unit (s := S60x48x256) ![k.val, 0, 0] S1x48x256.size (inb_xt k)).toLoadRect

/-- The codes of one column, before they are narrowed to integers. -/
def codeCol (s : FVec F S48x256 .f32) (x : Vec F S1x48x256 .f32) : FVec F S48x256 .f32 := k0_pay752 s x

/-- The two pieces one column's codes leave. -/
def codePair (k : Fin 60) (C : FVec F S48x256 .f32) : List (View.Piece (Elt F) S2x2880x128 .f32) :=
  [⟨(Rect.unit (s := S2x2880x128) ![(1 : Fin 2).val, 0, 0] S1x2880x128.size (inb_c 1)).within ((strideRect k).consLift S1x2880x128.size rfl fun _ => rfl) fun _ => rfl,
     Rect.payAlong (r := strideRect k) (R := (strideRect k).consLift S1x2880x128.size rfl fun _ => rfl) (Rect.numel_consLift _ _ rfl fun _ => rfl) (k0_pay765 C)⟩,
   ⟨(Rect.unit (s := S2x2880x128) ![(0 : Fin 2).val, 0, 0] S1x2880x128.size (inb_c 0)).within ((strideRect k).consLift S1x2880x128.size rfl fun _ => rfl) fun _ => rfl,
     Rect.payAlong (r := strideRect k) (R := (strideRect k).consLift S1x2880x128.size rfl fun _ => rfl) (Rect.numel_consLift _ _ rfl fun _ => rfl) (k0_pay763 C)⟩]

/-- What the third loop leaves of the codes, last first. -/
def codeList (s : FVec F S48x256 .f32) (X : List (View.Piece (Elt F) S60x48x256 .f32)) : List (View.Piece (Elt F) S2x2880x128 .f32) :=
  down60.flatMap fun k => codePair k (codeCol s (xtRead X k))

theorem inb_r (c : Fin 2) (j : Fin 90) : ∀ a, (![c.val, 32 * j.val, 0] : Fin 3 → ℕ) a + S1x32x128.size a ≤ S2x2880x128.size a := by
  intro a
  match a with
  | ⟨0, _⟩ => show c.val + 1 ≤ 2; omega
  | ⟨1, _⟩ => show 32 * j.val + 32 ≤ 2880; omega
  | ⟨2, _⟩ => show 0 + 128 ≤ 128; omega

theorem inb_o (j : Fin 90) : ∀ a, (![0, 32 * j.val, 0] : Fin 3 → ℕ) a + S1x32x256.size a ≤ S1x2880x256.size a := by
  intro a
  match a with
  | ⟨0, _⟩ => show 0 + 1 ≤ 1; omega
  | ⟨1, _⟩ => show 32 * j.val + 32 ≤ 2880; omega
  | ⟨2, _⟩ => show 0 + 256 ≤ 256; omega

/-- What the body leaves of the codes: 32 rows at a time, as integers, last first. -/
def codesOut (C : List (View.Piece (Elt F) S2x2880x128 .f32)) : List (View.Piece (Elt F) S1x2880x256 .i8) :=
  down90.map fun j => ⟨Rect.unit ![0, 32 * j.val, 0] S1x32x256.size (inb_o j),
    k0_pay2258 (scM0_8.view.readCov C (Rect.unit (s := S2x2880x128) ![(0 : Fin 2).val, 32 * j.val, 0] S1x32x128.size (inb_r 0 j)).toLoadRect)
      (scM0_8.view.readCov C (Rect.unit (s := S2x2880x128) ![(1 : Fin 2).val, 32 * j.val, 0] S1x32x128.size (inb_r 1 j)).toLoadRect)⟩

/-! ## The loads of a point -/

theorem inb64 (b : ℕ) (h : b + 64 ≤ 2880) : ∀ a, (![0, b, 0] : Fin 3 → ℕ) a + S1x64x256.size a ≤ S1x2880x256.size a := by
  intro a
  match a with
  | ⟨0, _⟩ => show 0 + 1 ≤ 1; omega
  | ⟨1, _⟩ => show b + 64 ≤ 2880; omega
  | ⟨2, _⟩ => show 0 + 256 ≤ 256; omega

theorem inb80 (b : ℕ) (h : b + 80 ≤ 2880) : ∀ a, (![0, b, 0] : Fin 3 → ℕ) a + S1x80x256.size a ≤ S1x2880x256.size a := by
  intro a
  match a with
  | ⟨0, _⟩ => show 0 + 1 ≤ 1; omega
  | ⟨1, _⟩ => show b + 80 ≤ 2880; omega
  | ⟨2, _⟩ => show 0 + 256 ≤ 256; omega

theorem inb_v (v : Fin 4) : ∀ a, (![v.val, 0, 0] : Fin 3 → ℕ) a + S1x64x240.size a ≤ S4x64x240.size a := by
  intro a
  match a with
  | ⟨0, _⟩ => show v.val + 1 ≤ 4; omega
  | ⟨1, _⟩ => show 0 + 64 ≤ 64; omega
  | ⟨2, _⟩ => show 0 + 240 ≤ 240; omega

/-- 64 rows of a block of tokens. -/
def ld64 (t : Fin cfg0.N) (x : Vec F S1x2880x256 .bf16) (b : ℕ) (h : b + 64 ≤ 2880) : Vec F S1x64x256 .bf16 :=
  View.readAt (Elt F) (ms0_1 t).view (Rect.unit (s := S1x2880x256) ![0, b, 0] S1x64x256.size (inb64 b h)).toLoadRect ((hs0_1 t).unread x)
/-- 80 rows of a block of tokens. -/
def ld80 (t : Fin cfg0.N) (x : Vec F S1x2880x256 .bf16) (b : ℕ) (h : b + 80 ≤ 2880) : Vec F S1x80x256 .bf16 :=
  View.readAt (Elt F) (ms0_1 t).view (Rect.unit (s := S1x2880x256) ![0, b, 0] S1x80x256.size (inb80 b h)).toLoadRect ((hs0_1 t).unread x)

/-- The windows of a block of tokens, over the four shifted factors. -/
def wins (t : Fin cfg0.N) (x : Vec F S1x2880x256 .bf16) (P : Fin 4 → Vec F S1x64x240 .bf16) : Wins F where
  x0 q := ld64 t x (240 * q.val) (by omega)
  x1 q := ld80 t x (240 * q.val + 48) (by omega)
  x2 q := ld80 t x (240 * q.val + 112) (by omega)
  x3 q := ld64 t x (240 * q.val + 176) (by omega)
  p0 := P 0
  p1 := P 1
  p2 := P 2
  p3 := P 3

/-- The clipping factor of a point. -/
def alphaOf (t : Fin cfg0.N) (x0 : Vec F S1x1 .f32) : Elt F .f32 :=
  View.readAt (Elt F) (ms0_0 t).view (Rect.unit (s := S1x1) ![0, 0] S1x1.size inb_S1x1_S1x1_0_0).toLoadRect ((hs0_0 t).unread x0) (Shape.Idx.first (by decide))

/-! ## The two factors as the first point stores them -/

theorem inb_f (v : Fin 4) (n : Fin 3) : ∀ a, (![v.val, 0, 80 * n.val + 4 * v.val] : Fin 3 → ℕ) a + S1x60x60.size a ≤ S4x64x240.size a := by
  intro a
  match a with
  | ⟨0, _⟩ => show v.val + 1 ≤ 4; omega
  | ⟨1, _⟩ => show 0 + 60 ≤ 64; omega
  | ⟨2, _⟩ => show 80 * n.val + 4 * v.val + 60 ≤ 240; omega

/-- The three parts a value is split in. -/
def part (f : Vec F S60x60 .f32) (n : Fin 3) : FVec F S60x60 .bf16 :=
  match n with
  | 0 => k0_pay10 f
  | 1 => k0_pay12 f
  | 2 => k0_pay13 f

/-- Part `n` in shifted place `v`. -/
def fPiece (f : Vec F S60x60 .f32) (v : Fin 4) (n : Fin 3) : View.Piece (Elt F) S4x64x240 .bf16 :=
  ⟨Rect.unit ![v.val, 0, 80 * n.val + 4 * v.val] S1x60x60.size (inb_f v n), shapeCast S1x60x60 (part f n) shapeCasts_S60x60_S1x60x60⟩

def down4 : List (Fin 4) := [3, 2, 1, 0]
theorem mem_down4 : ∀ k : Fin 4, k ∈ down4 := by decide

/-- The second factor's three parts, in each of the four shifted places. -/
def fParts (f : Vec F S60x60 .f32) : List (View.Piece (Elt F) S4x64x240 .bf16) :=
  down4.flatMap fun v => [fPiece f v 2, fPiece f v 1, fPiece f v 0]
/-- Zeros everywhere. -/
def fZero : List (View.Piece (Elt F) S4x64x240 .bf16) := [⟨Rect.unit ![0, 0, 0] S4x64x240.size inb_S4x64x240_S4x64x240_0_0_0, k0_pay4⟩]
/-- The shifted copies over the zeros. -/
def fList (f : Vec F S60x60 .f32) : List (View.Piece (Elt F) S4x64x240 .bf16) := fParts f ++ fZero

/-- The first factor's six blocks. -/
def gList (f : Vec F S48x48 .f32) : List (View.Piece (Elt F) S48x288 .bf16) :=
  [⟨Rect.unit ![0, 0] S48x288.size inb_S48x288_S48x288_0_0, k0_pay6 f⟩]

/-- A point's whole second operand. -/
def p2tOf (t : Fin cfg0.N) (x : Vec F S60x60 .f32) : Vec F S60x60 .f32 :=
  View.readAt (Elt F) (ms0_6 t).view (Rect.unit (s := S60x60) ![0, 0] S60x60.size inb_S60x60_S60x60_0_0).toLoadRect ((hs0_6 t).unread x)
/-- A point's whole first operand. -/
def p1tOf (t : Fin cfg0.N) (x : Vec F S48x48 .f32) : Vec F S48x48 .f32 :=
  View.readAt (Elt F) (ms0_4 t).view (Rect.unit (s := S48x48) ![0, 0] S48x48.size inb_S48x48_S48x48_0_0).toLoadRect ((hs0_4 t).unread x)

/-- The shifted second factor, read from the pieces just stored. -/
def P2A (L : List (View.Piece (Elt F) S4x64x240 .bf16)) (v : Fin 4) : Vec F S1x64x240 .bf16 :=
  scM0_2.view.readCov L (Rect.unit (s := S4x64x240) ![v.val, 0, 0] S1x64x240.size (inb_v v)).toLoadRect
/-- The shifted second factor, read from what an earlier point left. -/
def P2B (X : Vec F S4x64x240 .bf16) (v : Fin 4) : Vec F S1x64x240 .bf16 :=
  View.readAt (Elt F) scM0_2.view (Rect.unit (s := S4x64x240) ![v.val, 0, 0] S1x64x240.size (inb_v v)).toLoadRect ((Memref.isWhole_whole _).unread X)
/-- The first factor, read from the piece just stored. -/
def P1A (L : List (View.Piece (Elt F) S48x288 .bf16)) : Vec F S48x288 .bf16 :=
  scM0_0.view.readCov L (Rect.unit (s := S48x288) ![0, 0] S48x288.size inb_S48x288_S48x288_0_0).toLoadRect
/-- The first factor, read from what an earlier point left. -/
def P1B (X : Vec F S48x288 .bf16) : Vec F S48x288 .bf16 :=
  View.readAt (Elt F) scM0_0.view (Rect.unit (s := S48x288) ![0, 0] S48x288.size inb_S48x288_S48x288_0_0).toLoadRect ((Memref.isWhole_whole _).unread X)

/-- The scales a point leaves, from its tokens and the two factors. -/
def sOf (t : Fin cfg0.N) (x0 : Vec F S1x1 .f32) (x1 : Vec F S1x2880x256 .bf16) (P : Fin 4 → Vec F S1x64x240 .bf16) (Q : Vec F S48x288 .bf16) :
    FVec F S48x256 .f32 :=
  scaleOf (alphaOf t x0) (rowMax (aList (wins t x1 P)) Q)

/-- The codes a point leaves. -/
def codesOf (t : Fin cfg0.N) (x0 : Vec F S1x1 .f32) (x1 : Vec F S1x2880x256 .bf16) (P : Fin 4 → Vec F S1x64x240 .bf16) (Q : Vec F S48x288 .bf16) :
    List (View.Piece (Elt F) S1x2880x256 .i8) :=
  codesOut (codeList (sOf t x0 x1 P Q) (xtList (aList (wins t x1 P)) Q))

end Cert.TransformIdeal.Gen

end
-- ==== Proof.Ideal.RunA.lean ====
/-
  The whole body of the transform call at the first grid point, run by the symbolic executor: what its stores leave in each
  output and scratch, as lists of pieces.
-/
module

public import proofs.«01_k».proof.Proof.Ideal.Runs

@[expose] public section

-- membership in a rectangle of production extents (`View.cover_of_tiled`): the elaborator's structural look
-- recurses once per coordinate of the long axes
set_option maxRecDepth 16384

noncomputable section

namespace Cert.TransformIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 18008000 in set_option sl_exec.squeezeSlice true in set_option sl_exec.stridedRows true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) :
    Σ' (L7 : List (View.Piece (Elt F) S1x2880x256 .bf16)), Σ' (L8 : List (View.Piece (Elt F) S1x2880x256 .i8)), Σ' (L9 : List (View.Piece (Elt F) S1x48x256 .f32)), Σ' (L10 : List (View.Piece (Elt F) S1x256 .f32)), Σ' (L11 : List (View.Piece (Elt F) S144x144 .f32)), Σ' (L12 : List (View.Piece (Elt F) S4x80x192 .f32)), Σ' (LS0 : List (View.Piece (Elt F) S48x288 .bf16)), Σ' (LS1 : List (View.Piece (Elt F) S48x288 .bf16)), Σ' (LS2 : List (View.Piece (Elt F) S4x64x240 .bf16)), Σ' (LS3 : List (View.Piece (Elt F) S2x64x384 .bf16)), Σ' (LT4 : List (View.Piece (Elt F) S2x2880x128 .f32)), Σ' (LT5 : List (View.Piece (Elt F) S60x144x256 .bf16)), Σ' (LT6 : List (View.Piece (Elt F) S60x48x256 .f32)), { LT7 : List (View.Piece (Elt F) S2x3328x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LT4) ∗ (∃ f, arg20.view.loc (c : Thread nD τ) ↦[arg20.view.set]{fullShare} arg20.view.writes (Elt F) f LT5) ∗ (∃ f, arg21.view.loc (c : Thread nD τ) ↦[arg21.view.set]{fullShare} arg21.view.writes (Elt F) f LT6) ∗ (∃ f, arg22.view.loc (c : Thread nD τ) ↦[arg22.view.set]{fullShare} arg22.view.writes (Elt F) f LT7) ∗ (∃ d, owns (c : Thread nD τ) arg23 fullShare d)) -∗ K ⟨⟩))
          ⊢ wp frame (wpE (defs₀ (F := F)) Variants.none c none) E (cc0_transform i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, ?_, fun E K => ?run⟩
  case run =>
    simp only [cc0_transform_eq_skeleton]; unfold cc0_transform_skel
    simp only [k0_part260_eq_skeleton, k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part261_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part262_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part263_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _, _; isplitr; swap; · iexact HS8
    ipureintro; rfl

end Cert.TransformIdeal.Gen

end
-- ==== Proof.Ideal.RunB.lean ====
/-
  The whole body of the transform call at a later grid point, run by the symbolic executor: what its stores leave in each
  output and scratch, as lists of pieces. The `c4` scratch comes with its last rows zero.
-/
module

public import proofs.«01_k».proof.Proof.Ideal.RunA

@[expose] public section

-- membership in a rectangle of production extents (`View.cover_of_tiled`): the elaborator's structural look
-- recurses once per coordinate of the long axes
set_option maxRecDepth 16384

noncomputable section

namespace Cert.TransformIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 17608000 in set_option sl_exec.squeezeSlice true in set_option sl_exec.stridedRows true in
/-- What the body's stores leave in each output's staging memref, as pieces (last first) IN CASE B (`scf.if` 0 not taken: points 1, 2, … 95: 95 of 96), WITH the
    proof that on whole staging memrefs — the inputs' at their contents, the outputs it reads before covering (11, 12) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1x1 .f32) (harg2 : arg2.IsWhole) (arg3 : Memref sig .tc .vmem S1x2880x256 .bf16) (harg3 : arg3.IsWhole) (arg4 : Memref sig .tc .vmem S2x2880x128 .f32) (harg4 : arg4.IsWhole) (arg5 : Memref sig .tc .vmem S48x48 .f32) (harg5 : arg5.IsWhole) (arg6 : Memref sig .tc .vmem S48x48 .f32) (harg6 : arg6.IsWhole) (arg7 : Memref sig .tc .vmem S60x60 .f32) (harg7 : arg7.IsWhole) (arg8 : Memref sig .tc .vmem S60x60 .f32) (harg8 : arg8.IsWhole) (arg9 : Memref sig .tc .vmem S1x2880x256 .bf16) (harg9 : arg9.IsWhole) (arg10 : Memref sig .tc .vmem S1x2880x256 .i8) (harg10 : arg10.IsWhole) (arg11 : Memref sig .tc .vmem S1x48x256 .f32) (harg11 : arg11.IsWhole) (arg12 : Memref sig .tc .vmem S1x256 .f32) (harg12 : arg12.IsWhole) (arg13 : Memref sig .tc .vmem S144x144 .f32) (harg13 : arg13.IsWhole) (arg14 : Memref sig .tc .vmem S4x80x192 .f32) (harg14 : arg14.IsWhole) (arg15 : Memref sig .tc .vmem S48x288 .bf16) (harg15 : arg15.IsWhole) (arg16 : Memref sig .tc .vmem S48x288 .bf16) (harg16 : arg16.IsWhole) (arg17 : Memref sig .tc .vmem S4x64x240 .bf16) (harg17 : arg17.IsWhole) (arg18 : Memref sig .tc .vmem S2x64x384 .bf16) (harg18 : arg18.IsWhole) (arg19 : Memref sig .tc .vmem S2x2880x128 .f32) (harg19 : arg19.IsWhole) (arg20 : Memref sig .tc .vmem S60x144x256 .bf16) (harg20 : arg20.IsWhole) (arg21 : Memref sig .tc .vmem S60x48x256 .f32) (harg21 : arg21.IsWhole) (arg22 : Memref sig .tc .vmem S2x3328x128 .f32) (harg22 : arg22.IsWhole) (arg23 : Memref sig .tc .vmem S2x2880x128 .f32) (harg23 : arg23.IsWhole) (hc0 : ¬cond0_0 i)
    (x0 : Vec F S1x1 .f32) (x1 : Vec F S1x2880x256 .bf16) (x2 : Vec F S2x2880x128 .f32) (x3 : Vec F S48x48 .f32) (x4 : Vec F S48x48 .f32) (x5 : Vec F S60x60 .f32) (x6 : Vec F S60x60 .f32) (xo11 : Vec F S144x144 .f32) (xo12 : Vec F S4x80x192 .f32) (xs0 : Vec F S48x288 .bf16) (xs1 : Vec F S48x288 .bf16) (xs2 : Vec F S4x64x240 .bf16) (xs3 : Vec F S2x64x384 .bf16) :
    Σ' (L7 : List (View.Piece (Elt F) S1x2880x256 .bf16)), Σ' (L8 : List (View.Piece (Elt F) S1x2880x256 .i8)), Σ' (L9 : List (View.Piece (Elt F) S1x48x256 .f32)), Σ' (L10 : List (View.Piece (Elt F) S1x256 .f32)), Σ' (L11 : List (View.Piece (Elt F) S144x144 .f32)), Σ' (L12 : List (View.Piece (Elt F) S4x80x192 .f32)), Σ' (LS0 : List (View.Piece (Elt F) S48x288 .bf16)), Σ' (LS1 : List (View.Piece (Elt F) S48x288 .bf16)), Σ' (LS2 : List (View.Piece (Elt F) S4x64x240 .bf16)), Σ' (LS3 : List (View.Piece (Elt F) S2x64x384 .bf16)), Σ' (LT4 : List (View.Piece (Elt F) S2x2880x128 .f32)), Σ' (LT5 : List (View.Piece (Elt F) S60x144x256 .bf16)), Σ' (LT6 : List (View.Piece (Elt F) S60x48x256 .f32)), { LT7 : List (View.Piece (Elt F) S2x3328x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo11 ∗ owns (c : Thread nD τ) arg14 fullShare xo12 ∗ owns (c : Thread nD τ) arg15 fullShare xs0 ∗ owns (c : Thread nD τ) arg16 fullShare xs1 ∗ owns (c : Thread nD τ) arg17 fullShare xs2 ∗ owns (c : Thread nD τ) arg18 fullShare xs3 ∗ (∃ d, owns (c : Thread nD τ) arg19 fullShare d) ∗ (∃ d, owns (c : Thread nD τ) arg20 fullShare d) ∗ (∃ d, owns (c : Thread nD τ) arg21 fullShare d) ∗ (∃ f, arg22.view.loc (c : Thread nD τ) ↦[arg22.view.set]{fullShare} arg22.view.writes (Elt F) f zeroRows) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xs0 ∗ owns (c : Thread nD τ) arg16 fullShare xs1 ∗ owns (c : Thread nD τ) arg17 fullShare xs2 ∗ owns (c : Thread nD τ) arg18 fullShare xs3 ∗ (∃ f, arg19.view.loc (c : Thread nD τ) ↦[arg19.view.set]{fullShare} arg19.view.writes (Elt F) f LT4) ∗ (∃ f, arg20.view.loc (c : Thread nD τ) ↦[arg20.view.set]{fullShare} arg20.view.writes (Elt F) f LT5) ∗ (∃ f, arg21.view.loc (c : Thread nD τ) ↦[arg21.view.set]{fullShare} arg21.view.writes (Elt F) f LT6) ∗ (∃ f, arg22.view.loc (c : Thread nD τ) ↦[arg22.view.set]{fullShare} arg22.view.writes (Elt F) f LT7) ∗ (∃ d, owns (c : Thread nD τ) arg23 fullShare d)) -∗ K ⟨⟩))
          ⊢ wp frame (wpE (defs₀ (F := F)) Variants.none c none) E (cc0_transform i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, [], [], [], [], ?_, ?_, ?_, ?_, fun E K => ?run⟩
  case run =>
    simp only [cc0_transform_eq_skeleton]; unfold cc0_transform_skel
    simp only [k0_part260_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part261_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part262_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part263_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, ⟨%fs7, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hf11; obtain rfl := harg14.eq_unread hf12; obtain rfl := harg15.eq_unread hfs0; obtain rfl := harg16.eq_unread hfs1; obtain rfl := harg17.eq_unread hfs2; obtain rfl := harg18.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    isplitl [HS3]
    · iexists _; isplitr; · ipureintro; exact harg18.read_unread _
      iexact HS3
    isplitl [HS4]; · iexists _; iexact HS4
    isplitl [HS5]; · iexists _; iexact HS5
    isplitl [HS6]; · iexists _; iexact HS6
    isplitl [HS7]; · iexists _; iexact HS7
    iexists _, _; isplitr; swap; · iexact HS8
    ipureintro; rfl

end Cert.TransformIdeal.Gen

end
-- ==== Proof.Ideal.Zero.lean ====
/-
  The last rows of the `c4` scratch: stored by the first point, touched by no other store, so zero at every point.
-/
module

public import proofs.«01_k».proof.Proof.Ideal.Runs

@[expose] public section

-- membership in a rectangle of production extents (`View.cover_of_tiled`): the elaborator's structural look
-- recurses once per coordinate of the long axes
set_option maxRecDepth 16384

noncomputable section

namespace Cert.TransformIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows of `c4` that stay zero -/

/-- A piece that writes only rows below 3120. -/
def lowPiece (p : View.Piece (Elt F) S2x3328x128 .f32) : Bool :=
  decide (p.1.off 1 + p.1.stride 1 * (p.1.size 1 - 1) < 3120)

theorem lowPiece_not_mem (p : View.Piece (Elt F) S2x3328x128 .f32) (h : lowPiece p = true) (y : S2x3328x128.Idx)
    (hy : 3120 ≤ (y 1).val) : y ∉ p.1.set := by
  intro hm
  obtain ⟨x, rfl⟩ : ∃ x, p.1.emb x = y := p.1.exists_idx_of_mem hm
  have h1 : p.1.off 1 + p.1.stride 1 * (p.1.size 1 - 1) < 3120 := of_decide_eq_true h
  rw [Rect.emb_apply] at hy
  have hx : (x 1).val ≤ p.1.size 1 - 1 := Nat.le_sub_one_of_lt (x 1).isLt
  have := Nat.mul_le_mul_left (p.1.stride 1) hx
  omega

/-- A view's write of what it reads already is no change. -/
theorem write_same {sig' : RefSig} {κ : Kind} {sp : Space} {s : Shape} {e : EltTy} (v : View sig' κ sp s e)
    (f : v.ty.Contents (Elt F)) (w : s.Idx → Elt F e) (h : v.read (Elt F) f = w) : v.write (Elt F) f w Finset.univ = f := by
  subst h
  rw [View.write_read_eq_piecewise]
  funext i
  by_cases hi : i ∈ v.setOn Finset.univ
  · exact Finset.piecewise_eq_of_mem _ _ _ hi
  · exact Finset.piecewise_eq_of_notMem _ _ _ hi

/-- A list of writes that ends in the zero rows and touches them nowhere else leaves them zero: writing them again is no
    change. -/
theorem writes_zeroRows (v : View sig .tc .vmem S2x3328x128 .f32) (f : v.ty.Contents (Elt F))
    (L : List (View.Piece (Elt F) S2x3328x128 .f32)) (hL : L.all lowPiece = true) :
    v.writes (Elt F) (v.writes (Elt F) f (L ++ zeroRows)) zeroRows = v.writes (Elt F) f (L ++ zeroRows) := by
  have hmiss : ∀ y : S2x3328x128.Idx, 3120 ≤ (y 1).val →
      v.read (Elt F) (v.writes (Elt F) f (L ++ zeroRows)) y = v.read (Elt F) (v.writes (Elt F) f zeroRows) y := by
    intro y hy
    rw [View.writes_append]
    exact View.read_writes_apply_of_forall_not_mem v _ y L fun p hp => lowPiece_not_mem p (List.all_eq_true.mp hL p hp) y hy
  have e0 : (v.slice (Rect.unit ![0, 3120, 0] S1x208x128.size inb_S2x3328x128_S1x208x128_0_3120_0)).write (Elt F)
      (v.writes (Elt F) f (L ++ zeroRows)) (k0_pay42 (F := F)) Finset.univ = v.writes (Elt F) f (L ++ zeroRows) := by
    refine write_same _ _ _ (funext fun x => ?_)
    show v.read (Elt F) _ ((Rect.unit (s := S2x3328x128) ![0, 3120, 0] S1x208x128.size inb_S2x3328x128_S1x208x128_0_3120_0).emb x) = _
    have hx : (x 0).val < 1 := (x 0).isLt
    rw [hmiss _ (by rw [Rect.emb_apply]; exact Nat.le_add_right _ _), zeroRows,
      View.read_writes_cons_miss_of_axis _ _ _ _ _ (0 : Fin 3) 1 1 rfl rfl rfl
        (Or.inl (by rw [Rect.emb_apply]; show 0 + 1 * (x 0).val < 1; omega))]
    exact View.read_writes_cons_emb _ _ _ _ _ _
  have e1 : (v.slice (Rect.unit ![1, 3120, 0] S1x208x128.size inb_S2x3328x128_S1x208x128_1_3120_0)).write (Elt F)
      (v.writes (Elt F) f (L ++ zeroRows)) (k0_pay43 (F := F)) Finset.univ = v.writes (Elt F) f (L ++ zeroRows) := by
    refine write_same _ _ _ (funext fun x => ?_)
    show v.read (Elt F) _ ((Rect.unit (s := S2x3328x128) ![1, 3120, 0] S1x208x128.size inb_S2x3328x128_S1x208x128_1_3120_0).emb x) = _
    rw [hmiss _ (by rw [Rect.emb_apply]; exact Nat.le_add_right _ _), zeroRows]
    exact View.read_writes_cons_emb _ _ _ _ _ _
  conv_lhs => rw [zeroRows, View.writes_cons, View.writes_cons, View.writes_nil]
  exact (congrArg (fun g => (v.slice (Rect.unit ![1, 3120, 0] S1x208x128.size inb_S2x3328x128_S1x208x128_1_3120_0)).write (Elt F)
      g (k0_pay43 (F := F)) Finset.univ) e0).trans e1

/-- The same as ownership of the `c4` scratch: whatever else was written, its last rows are zero. -/
theorem keepZero (c : Dev nD) (L : List (View.Piece (Elt F) S2x3328x128 .f32)) (hd : L.drop 120 = zeroRows)
    (hL : (L.take 120).all lowPiece = true) (f : scM0_7.view.ty.Contents (Elt F)) :
    (scM0_7.view.loc (c : Thread nD τ) ↦[scM0_7.view.set]{fullShare} scM0_7.view.writes (Elt F) f L : sProp 𝕄)
      ⊢ iprop(∃ f, scM0_7.view.loc (c : Thread nD τ) ↦[scM0_7.view.set]{fullShare} scM0_7.view.writes (Elt F) f zeroRows) := by
  have e := writes_zeroRows scM0_7.view f (L.take 120) hL
  rw [← hd, List.take_append_drop, hd] at e
  iintro H
  iexists (scM0_7.view.writes (Elt F) f L)
  rw [e]
  iexact H

end Cert.TransformIdeal.Gen

end
-- ==== Proof.Ideal.Outs.lean ====
/-
  What the body of the transform call leaves at each grid point in its outputs and its carried scratch, as the
  read-back of the pieces the two runs found; and that those pieces cover what is read back.
-/
module

public import proofs.«01_k».proof.Proof.Ideal.RunB
public import Idealize.ShloMosaic.Lib.Pipeline.Value
public import proofs.«01_k».proof.Proof.Ideal.Zero

@[expose] public section

-- membership in a rectangle of production extents (`View.cover_of_tiled`): the elaborator's structural look
-- recurses once per coordinate of the long axes
set_option maxRecDepth 16384

noncomputable section

namespace Cert.TransformIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the call carries from point to point: its six outputs' buffers and its four factor scratches. -/
abbrev Outs (F : FTy → Type) : Type := Vec F S1x2880x256 .bf16 × Vec F S1x2880x256 .i8 × Vec F S1x48x256 .f32 × Vec F S1x256 .f32 × Vec F S144x144 .f32 × Vec F S4x80x192 .f32 × Vec F S48x288 .bf16 × Vec F S48x288 .bf16 × Vec F S4x64x240 .bf16 × Vec F S2x64x384 .bf16

/-- The run of the first point. -/
abbrev runA (c : Dev nD) (t : Fin cfg0.N) (h0 : t.val % 96 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (iblk m c 0 t) (iblk m c 1 t) (iblk m c 2 t) (iblk m c 3 t) (iblk m c 4 t) (iblk m c 5 t) (iblk m c 6 t)

/-- The run of a later point, over what the point before left. -/
abbrev runB (c : Dev nD) (t : Fin cfg0.N) (h0 : ¬t.val % 96 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (iblk m c 0 t) (iblk m c 1 t) (iblk m c 2 t) (iblk m c 3 t) (iblk m c 4 t) (iblk m c 5 t) (iblk m c 6 t) (p.2.2.2.2.1) (p.2.2.2.2.2.1) (p.2.2.2.2.2.2.1) (p.2.2.2.2.2.2.2.1) (p.2.2.2.2.2.2.2.2.1) (p.2.2.2.2.2.2.2.2.2)

/-- A list whose oldest piece is the whole buffer covers it. -/
theorem cover_of_last {s : Shape} {e : EltTy} (L : List (View.Piece (Elt F) s e)) {off : Fin s.rank → ℕ} (hoff : off = fun _ => 0)
    (inb : ∀ a, off a + s.size a ≤ s.size a) (h : L.getLast?.map (fun p => p.1) = some (Rect.unit off s.size inb)) (y : s.Idx) : ∃ pc ∈ L, y ∈ pc.1.set := by
  obtain ⟨p, hp, hr⟩ := Option.map_eq_some_iff.mp h
  exact ⟨p, List.mem_of_getLast? hp, hr ▸ View.mem_set_unit_zero hoff inb y⟩

theorem cover0_A_7 (c : Dev nD) (t : Fin cfg0.N) (h0 : t.val % 96 = 0) (y : S1x2880x256.Idx) : ∃ pc ∈ (runA m c t h0).1, y ∈ pc.1.set :=
  View.cover_of_tiledL (runA m c t h0).1 S1x240x256.size (by sl_kernel_rfl) y

theorem cover0_A_8 (c : Dev nD) (t : Fin cfg0.N) (h0 : t.val % 96 = 0) (y : S1x2880x256.Idx) : ∃ pc ∈ (runA m c t h0).2.1, y ∈ pc.1.set :=
  View.cover_of_tiledL (runA m c t h0).2.1 S1x32x256.size (by sl_kernel_rfl) y

theorem cover0_A_9 (c : Dev nD) (t : Fin cfg0.N) (h0 : t.val % 96 = 0) (y : S1x48x256.Idx) : ∃ pc ∈ (runA m c t h0).2.2.1, y ∈ pc.1.set :=
  View.cover_of_tiledL (runA m c t h0).2.2.1 S1x48x256.size (by sl_kernel_rfl) y

theorem cover0_A_10 (c : Dev nD) (t : Fin cfg0.N) (h0 : t.val % 96 = 0) (y : S1x256.Idx) : ∃ pc ∈ (runA m c t h0).2.2.2.1, y ∈ pc.1.set :=
  View.cover_of_tiledL (runA m c t h0).2.2.2.1 S1x256.size (by sl_kernel_rfl) y

theorem cover0_A_11 (c : Dev nD) (t : Fin cfg0.N) (h0 : t.val % 96 = 0) (y : S144x144.Idx) : ∃ pc ∈ (runA m c t h0).2.2.2.2.1, y ∈ pc.1.set :=
  View.cover_of_tiledL (runA m c t h0).2.2.2.2.1 S144x144.size (by sl_kernel_rfl) y

theorem cover0_A_12 (c : Dev nD) (t : Fin cfg0.N) (h0 : t.val % 96 = 0) (y : S4x80x192.Idx) : ∃ pc ∈ (runA m c t h0).2.2.2.2.2.1, y ∈ pc.1.set :=
  cover_of_last _ (off := ![0, 0, 0]) (by funext a; fin_cases a <;> rfl) inb_S4x80x192_S4x80x192_0_0_0 (by sl_kernel_rfl) y

theorem scover0_A_0 (c : Dev nD) (t : Fin cfg0.N) (h0 : t.val % 96 = 0) (y : S48x288.Idx) : ∃ pc ∈ (runA m c t h0).2.2.2.2.2.2.1, y ∈ pc.1.set :=
  View.cover_of_tiledL (runA m c t h0).2.2.2.2.2.2.1 S48x288.size (by sl_kernel_rfl) y

theorem scover0_A_1 (c : Dev nD) (t : Fin cfg0.N) (h0 : t.val % 96 = 0) (y : S48x288.Idx) : ∃ pc ∈ (runA m c t h0).2.2.2.2.2.2.2.1, y ∈ pc.1.set :=
  View.cover_of_tiledL (runA m c t h0).2.2.2.2.2.2.2.1 S48x288.size (by sl_kernel_rfl) y

theorem scover0_A_2 (c : Dev nD) (t : Fin cfg0.N) (h0 : t.val % 96 = 0) (y : S4x64x240.Idx) : ∃ pc ∈ (runA m c t h0).2.2.2.2.2.2.2.2.1, y ∈ pc.1.set :=
  cover_of_last _ (off := ![0, 0, 0]) (by funext a; fin_cases a <;> rfl) inb_S4x64x240_S4x64x240_0_0_0 (by sl_kernel_rfl) y

theorem scover0_A_3 (c : Dev nD) (t : Fin cfg0.N) (h0 : t.val % 96 = 0) (y : S2x64x384.Idx) : ∃ pc ∈ (runA m c t h0).2.2.2.2.2.2.2.2.2.1, y ∈ pc.1.set :=
  cover_of_last _ (off := ![0, 0, 0]) (by funext a; fin_cases a <;> rfl) inb_S2x64x384_S2x64x384_0_0_0 (by sl_kernel_rfl) y

theorem cover0_B_7 (c : Dev nD) (t : Fin cfg0.N) (h0 : ¬t.val % 96 = 0) (p : Outs F) (y : S1x2880x256.Idx) : ∃ pc ∈ (runB m c t h0 p).1, y ∈ pc.1.set :=
  View.cover_of_tiledL (runB m c t h0 p).1 S1x240x256.size (by sl_kernel_rfl) y

theorem cover0_B_8 (c : Dev nD) (t : Fin cfg0.N) (h0 : ¬t.val % 96 = 0) (p : Outs F) (y : S1x2880x256.Idx) : ∃ pc ∈ (runB m c t h0 p).2.1, y ∈ pc.1.set :=
  View.cover_of_tiledL (runB m c t h0 p).2.1 S1x32x256.size (by sl_kernel_rfl) y

theorem cover0_B_9 (c : Dev nD) (t : Fin cfg0.N) (h0 : ¬t.val % 96 = 0) (p : Outs F) (y : S1x48x256.Idx) : ∃ pc ∈ (runB m c t h0 p).2.2.1, y ∈ pc.1.set :=
  View.cover_of_tiledL (runB m c t h0 p).2.2.1 S1x48x256.size (by sl_kernel_rfl) y

theorem cover0_B_10 (c : Dev nD) (t : Fin cfg0.N) (h0 : ¬t.val % 96 = 0) (p : Outs F) (y : S1x256.Idx) : ∃ pc ∈ (runB m c t h0 p).2.2.2.1, y ∈ pc.1.set :=
  View.cover_of_tiledL (runB m c t h0 p).2.2.2.1 S1x256.size (by sl_kernel_rfl) y

theorem cover0_B_11 (c : Dev nD) (t : Fin cfg0.N) (h0 : ¬t.val % 96 = 0) (p : Outs F) (y : S144x144.Idx) : ∃ pc ∈ (runB m c t h0 p).2.2.2.2.1, y ∈ pc.1.set :=
  View.cover_of_tiledL (runB m c t h0 p).2.2.2.2.1 S144x144.size (by sl_kernel_rfl) y

theorem cover0_B_12 (c : Dev nD) (t : Fin cfg0.N) (h0 : ¬t.val % 96 = 0) (p : Outs F) (y : S4x80x192.Idx) : ∃ pc ∈ (runB m c t h0 p).2.2.2.2.2.1, y ∈ pc.1.set :=
  View.cover_of_tiledL (runB m c t h0 p).2.2.2.2.2.1 S1x80x192.size (by sl_kernel_rfl) y

/-- What the first point leaves. -/
def outA (c : Dev nD) (t : Fin cfg0.N) (h0 : t.val % 96 = 0) : Outs F :=
  (View.canon (runA m c t h0).1, View.canon (runA m c t h0).2.1, View.canon (runA m c t h0).2.2.1, View.canon (runA m c t h0).2.2.2.1, View.canon (runA m c t h0).2.2.2.2.1, View.canon (runA m c t h0).2.2.2.2.2.1, View.canon (runA m c t h0).2.2.2.2.2.2.1, View.canon (runA m c t h0).2.2.2.2.2.2.2.1, View.canon (runA m c t h0).2.2.2.2.2.2.2.2.1, View.canon (runA m c t h0).2.2.2.2.2.2.2.2.2.1)

/-- What a later point leaves, over what the point before left. -/
def outB (c : Dev nD) (t : Fin cfg0.N) (h0 : ¬t.val % 96 = 0) (p : Outs F) : Outs F :=
  (View.canon (runB m c t h0 p).1, View.canon (runB m c t h0 p).2.1, View.canon (runB m c t h0 p).2.2.1, View.canon (runB m c t h0 p).2.2.2.1, View.canon (runB m c t h0 p).2.2.2.2.1, View.canon (runB m c t h0 p).2.2.2.2.2.1, p.2.2.2.2.2.2)

/-- What the outputs and the carried scratch hold after the body at position `n`. -/
def outsAt0 (c : Dev nD) : (n : ℕ) → n < cfg0.N → Outs F
  | 0, hn => outA m c ⟨0, hn⟩ (Nat.zero_mod _)
  | n + 1, hn =>
    if h0 : (n + 1) % 96 = 0 then outA m c ⟨n + 1, hn⟩ h0
    else outB m c ⟨n + 1, hn⟩ h0 (outsAt0 c n (Nat.lt_of_succ_lt hn))

theorem outsAt0_A (c : Dev nD) (t : Fin cfg0.N) (h0 : t.val % 96 = 0) : outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 96 = 0) :
    outsAt0 m c t.val t.isLt = outB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

theorem zeroA (c : Dev nD) (t : Fin cfg0.N) (h0 : t.val % 96 = 0) : ((runA m c t h0).2.2.2.2.2.2.2.2.2.2.2.2.2.1).drop 120 = zeroRows := by sl_kernel_rfl
theorem lowA (c : Dev nD) (t : Fin cfg0.N) (h0 : t.val % 96 = 0) : (((runA m c t h0).2.2.2.2.2.2.2.2.2.2.2.2.2.1).take 120).all lowPiece = true := by sl_kernel_rfl
theorem zeroB (c : Dev nD) (t : Fin cfg0.N) (h0 : ¬t.val % 96 = 0) (p : Outs F) : ((runB m c t h0 p).2.2.2.2.2.2.2.2.2.2.2.2.2.1).drop 120 = zeroRows := by sl_kernel_rfl
theorem lowB (c : Dev nD) (t : Fin cfg0.N) (h0 : ¬t.val % 96 = 0) (p : Outs F) : (((runB m c t h0 p).2.2.2.2.2.2.2.2.2.2.2.2.2.1).take 120).all lowPiece = true := by sl_kernel_rfl

end Cert.TransformIdeal.Gen

end
-- ==== Proof.Ideal.Match.lean ====
/-
  The unrolled body's stores at each grid point are the lists of `Spec`.
-/
module

public import proofs.«01_k».proof.Proof.Ideal.Spec
public import proofs.«01_k».proof.Proof.Ideal.Outs
public import Idealize.ShloMosaic.Lib.WholeRead

@[expose] public section

set_option maxRecDepth 16384

noncomputable section

namespace Cert.TransformIdeal.Gen

open Idealize.ShloMosaic Idealize.ShloMosaic.TcCoe Idealize.ShloMosaic.Tactic Idealize.SL.Sem

variable {F : FTy → Type} [FloatOps F]

variable (m : (ℓ : Loc nD τ sig) → Buf (Elt F) ℓ) (c : Dev nD) (t : Fin cfg0.N)

/-- The second factor's four shifted copies after the first point. -/
abbrev first2 : Vec F S4x64x240 .bf16 := View.canon (fList (p2tOf t (iblk m c 6 t)))
/-- The first factor's six blocks after the first point. -/
abbrev first1 : Vec F S48x288 .bf16 := View.canon (gList (p1tOf t (iblk m c 4 t)))

section
variable (h0 : t.val % 96 = 0)

theorem runA_p1 : (runA m c t h0).2.2.2.2.2.2.1 = gList (p1tOf t (iblk m c 4 t)) := by sl_kernel_rfl
theorem runA_p2 : (runA m c t h0).2.2.2.2.2.2.2.2.1 = fList (p2tOf t (iblk m c 6 t)) := by sl_kernel_rfl
theorem runA_s : (runA m c t h0).2.2.1
    = sList (alphaOf t (iblk m c 0 t)) (aList (wins t (iblk m c 1 t) (P2A (fList (p2tOf t (iblk m c 6 t)))))) (P1A (gList (p1tOf t (iblk m c 4 t)))) := by
  sl_kernel_rfl
theorem runA_codes : (runA m c t h0).2.1
    = codesOf t (iblk m c 0 t) (iblk m c 1 t) (P2A (fList (p2tOf t (iblk m c 6 t)))) (P1A (gList (p1tOf t (iblk m c 4 t)))) := by sl_kernel_rfl
end

section
variable (h0 : ¬t.val % 96 = 0) (p : Outs F)

theorem runB_s : (runB m c t h0 p).2.2.1
    = sList (alphaOf t (iblk m c 0 t)) (aList (wins t (iblk m c 1 t) (P2B p.2.2.2.2.2.2.2.2.1))) (P1B p.2.2.2.2.2.2.1) := by sl_kernel_rfl
theorem runB_codes : (runB m c t h0 p).2.1
    = codesOf t (iblk m c 0 t) (iblk m c 1 t) (P2B p.2.2.2.2.2.2.2.2.1) (P1B p.2.2.2.2.2.2.1) := by sl_kernel_rfl
end

/-! ## The two reads of the factors agree -/

theorem P2A_eq (L : List (View.Piece (Elt F) S4x64x240 .bf16)) : P2A L = P2B (View.canon L) := by
  funext v
  unfold P2A P2B
  rw [View.readCov_eq_canon']
  funext x
  exact (Memref.IsWhole.readAt_unread _ _ _ _).symm

theorem P1A_eq (L : List (View.Piece (Elt F) S48x288 .bf16)) : P1A L = P1B (View.canon L) := by
  unfold P1A P1B
  rw [View.readCov_eq_canon']
  funext x
  exact (Memref.IsWhole.readAt_unread _ _ _ _).symm

end Cert.TransformIdeal.Gen

end
-- ==== Proof.Ideal.Arith.lean ====
/-
  The body of the transform call over the extended reals: what its lists of pieces hold, as sums.
-/
module

public import proofs.«01_k».proof.Proof.Ideal.Match
public import Idealize.ShloMosaic.Lib.Pointwise
public import Idealize.ShloMosaic.Lib.Pipeline.ValueKit

@[expose] public section

set_option maxRecDepth 16384

noncomputable section

namespace Cert.TransformIdeal.Gen

open Idealize.ShloMosaic Idealize.ShloMosaic.TcCoe Idealize.ShloMosaic.Tactic Idealize.SL.Sem

/-! ## Sums and finite values -/

/-- A sum whose terms vanish outside a window of `n` places is the sum over the window. -/
theorem sum_window {N n o : ℕ} (h : o + n ≤ N) (f : Fin N → EReal) (h0 : ∀ c : Fin N, ¬(o ≤ c.val ∧ c.val < o + n) → f c = 0) :
    ∑ c, f c = ∑ j : Fin n, f ⟨o + j.val, by omega⟩ := by
  symm
  refine Finset.sum_of_injOn (fun j : Fin n => (⟨o + j.val, by omega⟩ : Fin N)) ?_ ?_ ?_ ?_
  · intro a _ b _ e
    have := congrArg Fin.val e
    simp only at this
    exact Fin.ext (by omega)
  · intro a _; simp
  · intro c _ hc
    refine h0 c fun hw => hc ⟨⟨c.val - o, by omega⟩, by simp, Fin.ext ?_⟩
    show o + (c.val - o) = c.val
    omega
  · intro a _; rfl

/-- An extended real that is a real number. -/
def IsReal (x : EReal) : Prop := x ≠ ⊥ ∧ x ≠ ⊤

theorem IsReal.coe (r : ℝ) : IsReal (r : EReal) := ⟨EReal.coe_ne_bot r, EReal.coe_ne_top r⟩

theorem IsReal.sub_self {x : EReal} (h : IsReal x) : x - x = 0 := by
  obtain ⟨r, rfl⟩ : ∃ r : ℝ, x = r := ⟨x.toReal, (EReal.coe_toReal h.2 h.1).symm⟩
  rw [← EReal.coe_sub, _root_.sub_self, EReal.coe_zero]

theorem IsReal.mul {x y : EReal} (hx : IsReal x) (hy : IsReal y) : IsReal (x * y) := by
  obtain ⟨r, rfl⟩ : ∃ r : ℝ, x = r := ⟨x.toReal, (EReal.coe_toReal hx.2 hx.1).symm⟩
  obtain ⟨s, rfl⟩ : ∃ s : ℝ, y = s := ⟨y.toReal, (EReal.coe_toReal hy.2 hy.1).symm⟩
  rw [← EReal.coe_mul]; exact .coe _

theorem IsReal.zero : IsReal 0 := .coe 0

theorem IsReal.add {x y : EReal} (hx : IsReal x) (hy : IsReal y) : IsReal (x + y) := by
  obtain ⟨r, rfl⟩ : ∃ r : ℝ, x = r := ⟨x.toReal, (EReal.coe_toReal hx.2 hx.1).symm⟩
  obtain ⟨s, rfl⟩ : ∃ s : ℝ, y = s := ⟨y.toReal, (EReal.coe_toReal hy.2 hy.1).symm⟩
  rw [← EReal.coe_add]; exact .coe _

theorem IsReal.sum {n : ℕ} {f : Fin n → EReal} (h : ∀ j, IsReal (f j)) : IsReal (∑ j, f j) :=
  Finset.sum_induction f IsReal (fun _ _ => .add) .zero fun j _ => h j

theorem zero_minus : (0 : EReal) - 0 = 0 := IsReal.zero.sub_self

/-! ## The payloads -/

theorem pay44_window (X : Vec Ideal S1x64x256 .bf16) (P : Vec Ideal S1x64x240 .bf16) (o : ℕ) (ho : o + 60 ≤ 64) (k : Fin 64) (z : Fin 256)
    (hP : ∀ c : Fin 240, ¬(o ≤ c.val ∧ c.val < o + 60) → P (ix3 (n0 := 1) (n1 := 64) (n2 := 240) 0 k c) = 0) :
    k0_pay44 X P (ix2 (n0 := 64) (n1 := 256) k z)
      = ∑ j : Fin 60, P (ix3 (n0 := 1) (n1 := 64) (n2 := 240) 0 k ⟨o + j.val, by omega⟩)
          * X (ix3 (n0 := 1) (n1 := 64) (n2 := 256) 0 ⟨o + j.val, by omega⟩ z) := by
  pointwise [k0_pay44]
  rw [sum_window (n := 60) (o := o) (by omega) _ (fun c hc => by rw [hP c hc, zero_mul])]
  refine Finset.sum_congr rfl fun j _ => ?_
  rw [dif_pos (show o + j.val < 80 by omega), dif_pos (show o + j.val < 64 by omega)]

theorem pay47_window (X : Vec Ideal S1x80x256 .bf16) (P : Vec Ideal S1x64x240 .bf16) (o : ℕ) (ho : o + 60 ≤ 80) (k : Fin 64) (z : Fin 256)
    (hP : ∀ c : Fin 240, ¬(o ≤ c.val ∧ c.val < o + 60) → P (ix3 (n0 := 1) (n1 := 64) (n2 := 240) 0 k c) = 0) :
    k0_pay47 X P (ix2 (n0 := 64) (n1 := 256) k z)
      = ∑ j : Fin 60, P (ix3 (n0 := 1) (n1 := 64) (n2 := 240) 0 k ⟨o + j.val, by omega⟩)
          * X (ix3 (n0 := 1) (n1 := 80) (n2 := 256) 0 ⟨o + j.val, by omega⟩ z) := by
  pointwise [k0_pay47]
  rw [sum_window (n := 60) (o := o) (by omega) _ (fun c hc => by rw [hP c hc, zero_mul])]
  refine Finset.sum_congr rfl fun j _ => ?_
  rw [dif_pos (show o + j.val < 80 by omega)]

theorem pay244_apply (l0 l1 : Vec Ideal S48x128 .f32) (i : Fin 48) (z : Fin 256) :
    k0_pay244 l0 l1 (ix2 (n0 := 48) (n1 := 256) i z) = if h : z.val < 128 then l0 (ix2 (n0 := 48) (n1 := 128) i ⟨z.val, h⟩)
      else l1 (ix2 (n0 := 48) (n1 := 128) i ⟨z.val - 128, by omega⟩) := by
  pointwise [k0_pay244]

theorem pay247_zero (l0 l1 : Vec Ideal S48x128 .f32) (y : S48x256.Idx) (h : IsReal (k0_pay244 l0 l1 y)) : k0_pay247 l0 l1 y = 0 := h.sub_self

theorem pay248_zero (l0 l1 : Vec Ideal S48x128 .f32) (y : S48x256.Idx) (h : IsReal (k0_pay244 l0 l1 y)) : k0_pay248 l0 l1 y = 0 := by
  show (k0_pay244 l0 l1 y - k0_pay244 l0 l1 y : EReal) - (k0_pay244 l0 l1 y - k0_pay244 l0 l1 y) = 0
  rw [h.sub_self]; exact zero_minus

theorem pay250_apply (l0 l1 : Vec Ideal S48x128 .f32) (P : Vec Ideal S48x288 .bf16) (a : Fin 48) (z : Fin 256)
    (hP : ∀ c : Fin 288, 144 ≤ c.val → P (ix2 (n0 := 48) (n1 := 288) a c) = 0)
    (hA : ∀ i : Fin 48, IsReal (k0_pay244 l0 l1 (ix2 (n0 := 48) (n1 := 256) i z))) :
    k0_pay250 l0 l1 P (ix2 (n0 := 48) (n1 := 256) a z)
      = ∑ i : Fin 48, P (ix2 (n0 := 48) (n1 := 288) a ⟨i.val, by omega⟩) * k0_pay244 l0 l1 (ix2 (n0 := 48) (n1 := 256) i z) := by
  pointwise [k0_pay250]
  rw [sum_window (n := 48) (o := 0) (by omega)]
  · refine Finset.sum_congr rfl fun j _ => ?_
    rw [dif_pos (show 0 + j.val < 48 by omega)]
    simp only [Nat.zero_add]; rfl
  · intro c hc
    have hc' : ¬ c.val < 48 := fun h => hc ⟨by omega, by omega⟩
    rw [dif_neg hc']
    by_cases h1 : c.val - 48 < 48
    · rw [dif_pos h1, pay247_zero _ _ _ (hA _), mul_zero]
    · rw [dif_neg h1]
      by_cases h2 : c.val - 48 - 48 < 48
      · rw [dif_pos h2, pay248_zero _ _ _ (hA _), mul_zero]
      · rw [hP c (by omega), zero_mul]

theorem pay6_low (f : Vec Ideal S48x48 .f32) (a i : Fin 48) : k0_pay6 f (ix2 (n0 := 48) (n1 := 288) a ⟨i.val, by omega⟩) = f (ix2 (n0 := 48) (n1 := 48) a i) := by
  pointwise [k0_pay6]

theorem pay6_high (f : Vec Ideal S48x48 .f32) (hf : ∀ y, IsReal (f y)) (a : Fin 48) (c : Fin 288) (hc : 144 ≤ c.val) :
    k0_pay6 f (ix2 (n0 := 48) (n1 := 288) a c) = 0 := by
  pointwise [k0_pay6]
  rw [dif_neg (by omega), dif_neg (by omega), dif_neg (by omega)]
  simp only [(hf _).sub_self, zero_minus, dite_eq_ite, ite_self]

theorem lowHalf_apply (W : FVec Ideal S64x256 .f32) (x : S1x60x128.Idx) : lowHalf W x = W (ix2 (n0 := 64) (n1 := 256)
    ⟨(x 1).val, by have h : (x 1).val < 60 := (x 1).isLt; omega⟩ ⟨(x 2).val, by have h : (x 2).val < 128 := (x 2).isLt; omega⟩) := by
  pointwise [lowHalf]
theorem highHalf_apply (W : FVec Ideal S64x256 .f32) (x : S1x60x128.Idx) : highHalf W x = W (ix2 (n0 := 64) (n1 := 256)
    ⟨(x 1).val, by have h : (x 1).val < 60 := (x 1).isLt; omega⟩ ⟨128 + (x 2).val, by have h : (x 2).val < 128 := (x 2).isLt; omega⟩) := by
  pointwise [highHalf]

/-! ## Lists of pieces at an index -/

/-- What is read at an index some of the younger pieces cover, where those that do agree. -/
theorem canon_at {s : Shape} {e : EltTy} (y : s.Idx) (v : Elt Ideal e) : ∀ (L M : List (View.Piece (Elt Ideal) s e)),
    (∀ p ∈ L, ∀ x, p.1.emb x = y → p.2 x = v) → (∃ p ∈ L, y ∈ p.1.set) → View.canon (L ++ M) y = v
  | [], M, _, h => by obtain ⟨p, hp, _⟩ := h; simp at hp
  | p :: L, M, hL, h => by
    by_cases hm : y ∈ p.1.set
    · obtain ⟨x, rfl⟩ := p.1.exists_idx_of_mem hm
      rw [List.cons_append, show p.1.idx x = p.1.emb x from rfl, View.canon_cons_emb]
      exact hL p (by simp) x rfl
    · rw [List.cons_append, View.canon_cons_of_not_mem _ _ hm]
      refine canon_at y v L M (fun q hq => hL q (List.mem_cons_of_mem _ hq)) ?_
      obtain ⟨q, hq, hy⟩ := h
      rcases List.mem_cons.mp hq with rfl | hq
      · exact absurd hy hm
      · exact ⟨q, hq, hy⟩

/-- Where a piece of unit stride puts an index. -/
theorem unit_emb_val {s : Shape} {off size : Fin s.rank → ℕ} (inb) (x : (Rect.unit (s := s) off size inb).shape.Idx) (a : Fin s.rank) :
    ((Rect.unit (s := s) off size inb).emb x a).val = off a + (x a).val := by
  show off a + 1 * (x a).val = _; omega

/-! ## The factors -/

theorem part_zero (f : Vec Ideal S60x60 .f32) (hf : ∀ y, IsReal (f y)) (n : Fin 3) (hn : n ≠ 0) (y : S60x60.Idx) : part f n y = 0 := by
  have h9 : ∀ y, k0_pay9 f y = f y := fun y => by unfold k0_pay9; rw [shapeCast_self]
  match n, hn with
  | 1, _ => show (k0_pay9 f y - k0_pay9 f y : EReal) = 0; rw [h9]; exact (hf y).sub_self
  | 2, _ =>
    show (k0_pay9 f y - k0_pay9 f y : EReal) - (k0_pay9 f y - k0_pay9 f y) = 0
    rw [h9, (hf y).sub_self]; exact zero_minus

theorem part_first (f : Vec Ideal S60x60 .f32) (y : S60x60.Idx) : part f 0 y = f y := by
  show k0_pay9 f y = f y
  unfold k0_pay9; rw [shapeCast_self]

theorem cast60_apply (g : FVec Ideal S60x60 .bf16) (x : S1x60x60.Idx) : shapeCast S1x60x60 g shapeCasts_S60x60_S1x60x60 x = g (ix2 (n0 := 60) (n1 := 60) (x 1) (x 2)) := by
  pointwise

/-- The shifted second factor inside its window. -/
theorem first2_in (f : Vec Ideal S60x60 .f32) (hf : ∀ y, IsReal (f y)) (v : Fin 4) (k j : Fin 60) :
    View.canon (fList f) (ix3 (n0 := 4) (n1 := 64) (n2 := 240) v ⟨k.val, by omega⟩ ⟨4 * v.val + j.val, by omega⟩) = f (ix2 (n0 := 60) (n1 := 60) k j) := by
  unfold fList
  refine canon_at _ _ _ _ ?_ ⟨fPiece f v 0, List.mem_flatMap.mpr ⟨v, mem_down4 v, by simp⟩, ?_⟩
  · intro p hp
    obtain ⟨w, -, hp⟩ := List.mem_flatMap.mp hp
    have hq : ∃ n, p = fPiece f w n := by
      simp only [List.mem_cons, List.mem_nil_iff, or_false] at hp
      rcases hp with rfl | rfl | rfl
      · exact ⟨2, rfl⟩
      · exact ⟨1, rfl⟩
      · exact ⟨0, rfl⟩
    obtain ⟨n, rfl⟩ := hq
    intro x hx
    have e0 : w.val + (x 0).val = v.val := (unit_emb_val (inb_f w n) x 0).symm.trans (congrArg Fin.val (congrFun hx 0))
    have e1 : 0 + (x 1).val = k.val := (unit_emb_val (inb_f w n) x 1).symm.trans (congrArg Fin.val (congrFun hx 1))
    have e2 : 80 * n.val + 4 * w.val + (x 2).val = 4 * v.val + j.val := (unit_emb_val (inb_f w n) x 2).symm.trans (congrArg Fin.val (congrFun hx 2))
    have b0 : (x 0).val < 1 := (x 0).isLt
    have hn : n = 0 := Fin.ext (by show n.val = 0; omega)
    subst hn
    refine (cast60_apply (part f 0) x).trans ?_
    rw [part_first]
    congr 1
    have h1 : x 1 = k := Fin.ext (by omega)
    have h2 : x 2 = j := Fin.ext (by have : (0 : Fin 3).val = 0 := rfl; omega)
    rw [h1, h2]
  · refine (Rect.mem_set_unit (inb := inb_f v 0)).mpr fun a => ?_
    match a with
    | ⟨0, _⟩ => exact ⟨le_refl _, Nat.lt_succ_self _⟩
    | ⟨1, _⟩ => exact ⟨Nat.zero_le _, by show k.val < 0 + 60; omega⟩
    | ⟨2, _⟩ => exact ⟨by show 80 * 0 + 4 * v.val ≤ 4 * v.val + j.val; omega, by show 4 * v.val + j.val < 80 * 0 + 4 * v.val + 60; omega⟩

/-- The shifted second factor outside its window. -/
theorem first2_out (f : Vec Ideal S60x60 .f32) (hf : ∀ y, IsReal (f y)) (v : Fin 4) (k : Fin 64) (c : Fin 240) (hc : ¬(4 * v.val ≤ c.val ∧ c.val < 4 * v.val + 60)) :
    View.canon (fList f) (ix3 (n0 := 4) (n1 := 64) (n2 := 240) v k c) = 0 := by
  rw [← List.append_nil (fList f)]
  refine canon_at _ _ _ _ ?_ ⟨_, List.mem_append_right _ (List.mem_singleton_self _), View.mem_set_unit_zero (by funext a; fin_cases a <;> rfl) inb_S4x64x240_S4x64x240_0_0_0 _⟩
  intro p hp
  rcases List.mem_append.mp hp with hp | hp
  · obtain ⟨w, -, hp⟩ := List.mem_flatMap.mp hp
    have hq : ∃ n, p = fPiece f w n := by
      simp only [List.mem_cons, List.mem_nil_iff, or_false] at hp
      rcases hp with rfl | rfl | rfl
      · exact ⟨2, rfl⟩
      · exact ⟨1, rfl⟩
      · exact ⟨0, rfl⟩
    obtain ⟨n, rfl⟩ := hq
    intro x hx
    have e0 : w.val + (x 0).val = v.val := (unit_emb_val (inb_f w n) x 0).symm.trans (congrArg Fin.val (congrFun hx 0))
    have e2 : 80 * n.val + 4 * w.val + (x 2).val = c.val := (unit_emb_val (inb_f w n) x 2).symm.trans (congrArg Fin.val (congrFun hx 2))
    have b0 : (x 0).val < 1 := (x 0).isLt
    have b2 : (x 2).val < 60 := (x 2).isLt
    refine (cast60_apply (part f n) x).trans (part_zero f hf n ?_ _)
    rintro rfl
    have : (0 : Fin 3).val = 0 := rfl
    omega
  · rw [List.mem_singleton.mp hp]
    intro x _
    show k0_pay4 x = 0
    pointwise [k0_pay4]

/-- A shifted copy read back. -/
theorem P2B_apply (X : Vec Ideal S4x64x240 .bf16) (v : Fin 4) (k : Fin 64) (c : Fin 240) :
    P2B X v (ix3 (n0 := 1) (n1 := 64) (n2 := 240) 0 k c) = X (ix3 (n0 := 4) (n1 := 64) (n2 := 240) v k c) := by
  unfold P2B
  rw [Memref.IsWhole.readAt_unread]
  congr 1
  funext a
  apply Fin.ext
  match a with
  | ⟨0, _⟩ => show v.val + 1 * 0 = v.val; omega
  | ⟨1, _⟩ => show 0 + 1 * k.val = k.val; omega
  | ⟨2, _⟩ => show 0 + 1 * c.val = c.val; omega

/-- The first factor read back. -/
theorem P1B_eq (X : Vec Ideal S48x288 .bf16) : P1B X = X := by
  funext x
  unfold P1B
  rw [Memref.IsWhole.readAt_unread]
  congr 1
  funext a
  apply Fin.ext
  match a with
  | ⟨0, _⟩ => show 0 + 1 * (x 0).val = (x 0).val; omega
  | ⟨1, _⟩ => show 0 + 1 * (x 1).val = (x 1).val; omega

theorem first1_eq (f : Vec Ideal S48x48 .f32) : View.canon (gList f) = k0_pay6 f :=
  View.canon_unit_zero (by funext a; fin_cases a <;> rfl) _ _

/-- 64 rows of the block. -/
theorem ld64_apply (t : Fin cfg0.N) (X : Vec Ideal S1x2880x256 .bf16) (b : ℕ) (h : b + 64 ≤ 2880) (j : Fin 64) (z : Fin 256) :
    ld64 t X b h (ix3 (n0 := 1) (n1 := 64) (n2 := 256) 0 j z) = X (ix3 (n0 := 1) (n1 := 2880) (n2 := 256) 0 ⟨b + j.val, by omega⟩ z) := by
  unfold ld64
  rw [Memref.IsWhole.readAt_unread]
  congr 1
  funext a
  apply Fin.ext
  match a with
  | ⟨0, _⟩ => rfl
  | ⟨1, _⟩ => show b + 1 * j.val = b + j.val; omega
  | ⟨2, _⟩ => show 0 + 1 * z.val = z.val; omega
/-- 80 rows of the block. -/
theorem ld80_apply (t : Fin cfg0.N) (X : Vec Ideal S1x2880x256 .bf16) (b : ℕ) (h : b + 80 ≤ 2880) (j : Fin 80) (z : Fin 256) :
    ld80 t X b h (ix3 (n0 := 1) (n1 := 80) (n2 := 256) 0 j z) = X (ix3 (n0 := 1) (n1 := 2880) (n2 := 256) 0 ⟨b + j.val, by omega⟩ z) := by
  unfold ld80
  rw [Memref.IsWhole.readAt_unread]
  congr 1
  funext a
  apply Fin.ext
  match a with
  | ⟨0, _⟩ => rfl
  | ⟨1, _⟩ => show b + 1 * j.val = b + j.val; omega
  | ⟨2, _⟩ => show 0 + 1 * z.val = z.val; omega

end Cert.TransformIdeal.Gen

end
-- ==== Proof.Ideal.Value.lean ====
/-
  What the three loops of the body leave, index by index, over the extended reals.
-/
module

public import proofs.«01_k».proof.Proof.Ideal.Arith

@[expose] public section

set_option maxRecDepth 16384

noncomputable section

namespace Cert.TransformIdeal.Gen

open Idealize.ShloMosaic Idealize.ShloMosaic.TcCoe Idealize.ShloMosaic.Tactic Idealize.SL.Sem

/-- A value for row `g`, column `k` and token `z`, laid out as the body lays it out: two chunks of 128 tokens, `48 × 60` rows. -/
def flat (G : Fin 48 → Fin 60 → Fin 256 → EReal) : FVec Ideal S2x2880x128 .f32 := fun y =>
  G ⟨(y 1).val / 60, by have h : (y 1).val < 2880 := (y 1).isLt; omega⟩ ⟨(y 1).val % 60, by omega⟩
    ⟨128 * (y 0).val + (y 2).val, by have h : (y 0).val < 2 := (y 0).isLt; have h' : (y 2).val < 128 := (y 2).isLt; omega⟩

theorem flat_eq (G : Fin 48 → Fin 60 → Fin 256 → EReal) (y : S2x2880x128.Idx) (g : Fin 48) (k : Fin 60) (z : Fin 256)
    (h1 : (y 1).val = 60 * g.val + k.val) (h2 : 128 * (y 0).val + (y 2).val = z.val) : flat G y = G g k z := by
  unfold flat
  have e1 : (y 1).val / 60 = g.val := by omega
  have e2 : (y 1).val % 60 = k.val := by omega
  exact congr (congr (congrArg G (Fin.ext e1)) (Fin.ext e2)) (Fin.ext h2)

/-! ## The first loop -/

theorem aPair_ok (G : Fin 48 → Fin 60 → Fin 256 → EReal) (q : Fin 12) (r : Fin 4) (W : FVec Ideal S64x256 .f32)
    (h : ∀ (k : Fin 60) (z : Fin 256), W (ix2 (n0 := 64) (n1 := 256) ⟨k.val, by omega⟩ z) = G ⟨4 * q.val + r.val, by omega⟩ k z) :
    ∀ p ∈ aPair q r W, ∀ x, p.2 x = flat G (p.1.emb x) := by
  intro p hp
  unfold aPair at hp
  simp only [List.mem_cons, List.mem_nil_iff, or_false] at hp
  rcases hp with rfl | rfl
  · intro x
    have b0 : (x 0).val < 1 := (x 0).isLt
    have b1 : (x 1).val < 60 := (x 1).isLt
    have b2 : (x 2).val < 128 := (x 2).isLt
    refine (highHalf_apply W x).trans ((h ⟨(x 1).val, b1⟩ ⟨128 + (x 2).val, by omega⟩).trans (flat_eq G _ _ _ _ ?_ ?_).symm)
    · refine (unit_emb_val (inb_a 1 q r) x 1).trans ?_
      show 240 * q.val + 60 * r.val + (x 1).val = 60 * (4 * q.val + r.val) + (x 1).val; omega
    · have e0 := unit_emb_val (inb_a 1 q r) x 0
      have e2 := unit_emb_val (inb_a 1 q r) x 2
      have e0' : ((Rect.unit (s := S2x2880x128) ![(1 : Fin 2).val, 240 * q.val + 60 * r.val, 0] S1x60x128.size (inb_a 1 q r)).emb x 0).val = 1 + (x 0).val := e0
      have e2' : ((Rect.unit (s := S2x2880x128) ![(1 : Fin 2).val, 240 * q.val + 60 * r.val, 0] S1x60x128.size (inb_a 1 q r)).emb x 2).val = 0 + (x 2).val := e2
      show 128 * _ + _ = 128 + (x 2).val
      rw [e0', e2']; omega
  · intro x
    have b0 : (x 0).val < 1 := (x 0).isLt
    have b1 : (x 1).val < 60 := (x 1).isLt
    have b2 : (x 2).val < 128 := (x 2).isLt
    refine (lowHalf_apply W x).trans ((h ⟨(x 1).val, b1⟩ ⟨(x 2).val, by omega⟩).trans (flat_eq G _ _ _ _ ?_ ?_).symm)
    · refine (unit_emb_val (inb_a 0 q r) x 1).trans ?_
      show 240 * q.val + 60 * r.val + (x 1).val = 60 * (4 * q.val + r.val) + (x 1).val; omega
    · have e0 := unit_emb_val (inb_a 0 q r) x 0
      have e2 := unit_emb_val (inb_a 0 q r) x 2
      have e0' : ((Rect.unit (s := S2x2880x128) ![(0 : Fin 2).val, 240 * q.val + 60 * r.val, 0] S1x60x128.size (inb_a 0 q r)).emb x 0).val = 0 + (x 0).val := e0
      have e2' : ((Rect.unit (s := S2x2880x128) ![(0 : Fin 2).val, 240 * q.val + 60 * r.val, 0] S1x60x128.size (inb_a 0 q r)).emb x 2).val = 0 + (x 2).val := e2
      show 128 * _ + _ = (x 2).val
      rw [e0', e2']; omega

theorem aPair_mem (q : Fin 12) (r : Fin 4) (W : FVec Ideal S64x256 .f32) (y : S2x2880x128.Idx)
    (hy : 240 * q.val + 60 * r.val ≤ (y 1).val ∧ (y 1).val < 240 * q.val + 60 * r.val + 60) : ∃ p ∈ aPair q r W, y ∈ p.1.set := by
  have b0 : (y 0).val < 2 := (y 0).isLt
  have b2 : (y 2).val < 128 := (y 2).isLt
  by_cases h : (y 0).val = 0
  · refine ⟨⟨Rect.unit ![(0 : Fin 2).val, 240 * q.val + 60 * r.val, 0] S1x60x128.size (inb_a 0 q r), lowHalf W⟩, List.mem_cons_of_mem _ (List.mem_singleton_self _), (Rect.mem_set_unit (inb := inb_a 0 q r)).mpr fun a => ?_⟩
    match a with
    | ⟨0, _⟩ => exact ⟨Nat.zero_le _, by show (y 0).val < 0 + 1; omega⟩
    | ⟨1, _⟩ => exact hy
    | ⟨2, _⟩ => exact ⟨Nat.zero_le _, by show (y 2).val < 0 + 128; omega⟩
  · refine ⟨⟨Rect.unit ![(1 : Fin 2).val, 240 * q.val + 60 * r.val, 0] S1x60x128.size (inb_a 1 q r), highHalf W⟩, List.mem_cons_self, (Rect.mem_set_unit (inb := inb_a 1 q r)).mpr fun a => ?_⟩
    match a with
    | ⟨0, _⟩ => exact ⟨by show 1 ≤ (y 0).val; omega, by show (y 0).val < 1 + 1; omega⟩
    | ⟨1, _⟩ => exact hy
    | ⟨2, _⟩ => exact ⟨Nat.zero_le _, by show (y 2).val < 0 + 128; omega⟩

/-- What the first loop leaves, from what each window's product is. -/
theorem aList_canon (w : Wins Ideal) (G : Fin 48 → Fin 60 → Fin 256 → EReal)
    (h0 : ∀ (q : Fin 12) (k : Fin 60) (z : Fin 256), k0_pay44 (w.x0 q) w.p0 (ix2 (n0 := 64) (n1 := 256) ⟨k.val, by omega⟩ z) = G ⟨4 * q.val + (0 : Fin 4).val, by omega⟩ k z)
    (h1 : ∀ (q : Fin 12) (k : Fin 60) (z : Fin 256), k0_pay47 (w.x1 q) w.p3 (ix2 (n0 := 64) (n1 := 256) ⟨k.val, by omega⟩ z) = G ⟨4 * q.val + (1 : Fin 4).val, by omega⟩ k z)
    (h2 : ∀ (q : Fin 12) (k : Fin 60) (z : Fin 256), k0_pay47 (w.x2 q) w.p2 (ix2 (n0 := 64) (n1 := 256) ⟨k.val, by omega⟩ z) = G ⟨4 * q.val + (2 : Fin 4).val, by omega⟩ k z)
    (h3 : ∀ (q : Fin 12) (k : Fin 60) (z : Fin 256), k0_pay44 (w.x3 q) w.p1 (ix2 (n0 := 64) (n1 := 256) ⟨k.val, by omega⟩ z) = G ⟨4 * q.val + (3 : Fin 4).val, by omega⟩ k z) :
    View.canon (aList w) = flat G := by
  funext y
  refine View.canon_apply_of_pieces (flat G) (aList w) ?_ y ?_
  · intro p hp
    obtain ⟨q, -, hp⟩ := List.mem_flatMap.mp hp
    rcases List.mem_append.mp hp with hp | hp
    · exact aPair_ok G q 3 _ (h3 q) p hp
    rcases List.mem_append.mp hp with hp | hp
    · exact aPair_ok G q 2 _ (h2 q) p hp
    rcases List.mem_append.mp hp with hp | hp
    · exact aPair_ok G q 1 _ (h1 q) p hp
    · exact aPair_ok G q 0 _ (h0 q) p hp
  · have b1 : (y 1).val < 2880 := (y 1).isLt
    let q : Fin 12 := ⟨(y 1).val / 240, by omega⟩
    have hq : q.val = (y 1).val / 240 := rfl
    have key : ∀ p : View.Piece (Elt Ideal) S2x2880x128 .f32, p ∈ aPair q 3 (k0_pay44 (w.x3 q) (w.p1)) ++ (aPair q 2 (k0_pay47 (w.x2 q) w.p2)
        ++ (aPair q 1 (k0_pay47 (w.x1 q) w.p3) ++ aPair q 0 (k0_pay44 (w.x0 q) w.p0))) → p ∈ aList w :=
      fun p hp => List.mem_flatMap.mpr ⟨q, mem_down12 q, hp⟩
    have hc : (y 1).val % 240 < 60 ∨ (60 ≤ (y 1).val % 240 ∧ (y 1).val % 240 < 120) ∨ (120 ≤ (y 1).val % 240 ∧ (y 1).val % 240 < 180) ∨ (180 ≤ (y 1).val % 240) := by omega
    rcases hc with hc | hc | hc | hc
    · obtain ⟨p, hp, hy⟩ := aPair_mem q 0 (k0_pay44 (w.x0 q) w.p0) y (by show 240 * q.val + 60 * 0 ≤ _ ∧ _ < 240 * q.val + 60 * 0 + 60; omega)
      exact ⟨p, key p (List.mem_append_right _ (List.mem_append_right _ (List.mem_append_right _ hp))), hy⟩
    · obtain ⟨p, hp, hy⟩ := aPair_mem q 1 (k0_pay47 (w.x1 q) w.p3) y (by show 240 * q.val + 60 * 1 ≤ _ ∧ _ < 240 * q.val + 60 * 1 + 60; omega)
      exact ⟨p, key p (List.mem_append_right _ (List.mem_append_right _ (List.mem_append_left _ hp))), hy⟩
    · obtain ⟨p, hp, hy⟩ := aPair_mem q 2 (k0_pay47 (w.x2 q) w.p2) y (by show 240 * q.val + 60 * 2 ≤ _ ∧ _ < 240 * q.val + 60 * 2 + 60; omega)
      exact ⟨p, key p (List.mem_append_right _ (List.mem_append_left _ hp)), hy⟩
    · obtain ⟨p, hp, hy⟩ := aPair_mem q 3 (k0_pay44 (w.x3 q) w.p1) y (by show 240 * q.val + 60 * 3 ≤ _ ∧ _ < 240 * q.val + 60 * 3 + 60; omega)
      exact ⟨p, key p (List.mem_append_left _ hp), hy⟩

/-- Entry `k` of row `g` of a block of tokens times the second factor. -/
def aVal (f : Vec Ideal S60x60 .f32) (X : Vec Ideal S1x2880x256 .bf16) (g : Fin 48) (k : Fin 60) (z : Fin 256) : EReal :=
  ∑ j : Fin 60, f (ix2 (n0 := 60) (n1 := 60) k j) * X (ix3 (n0 := 1) (n1 := 2880) (n2 := 256) 0 ⟨60 * g.val + j.val, by omega⟩ z)

section
variable (f : Vec Ideal S60x60 .f32) (hf : ∀ y, IsReal (f y))
include hf

theorem P2_out (v : Fin 4) (k : Fin 64) (c : Fin 240) (hc : ¬(4 * v.val ≤ c.val ∧ c.val < 4 * v.val + 60)) :
    P2B (View.canon (fList f)) v (ix3 (n0 := 1) (n1 := 64) (n2 := 240) 0 k c) = 0 := by
  rw [P2B_apply]; exact first2_out f hf v k c hc

theorem P2_in (v : Fin 4) (k j : Fin 60) : P2B (View.canon (fList f)) v (ix3 (n0 := 1) (n1 := 64) (n2 := 240) 0 ⟨k.val, by omega⟩ ⟨4 * v.val + j.val, by omega⟩)
    = f (ix2 (n0 := 60) (n1 := 60) k j) := by
  rw [P2B_apply]; exact first2_in f hf v k j

/-- A window of 64 rows times a shifted copy. -/
theorem win64 (t : Fin cfg0.N) (X : Vec Ideal S1x2880x256 .bf16) (v : Fin 4) (hv : v.val ≤ 1) (b : ℕ) (h : b + 64 ≤ 2880) (g : Fin 48) (hb : b + 4 * v.val = 60 * g.val)
    (k : Fin 60) (z : Fin 256) :
    k0_pay44 (ld64 t X b h) (P2B (View.canon (fList f)) v) (ix2 (n0 := 64) (n1 := 256) ⟨k.val, by omega⟩ z) = aVal f X g k z := by
  rw [pay44_window _ _ (4 * v.val) (by omega) _ _ (P2_out f hf v _)]
  refine Finset.sum_congr rfl fun j _ => ?_
  rw [P2_in f hf v k j, ld64_apply t X b h ⟨4 * v.val + j.val, by omega⟩ z]
  congr 3
  exact Fin.ext (by show b + (4 * v.val + j.val) = 60 * g.val + j.val; omega)

/-- A window of 80 rows times a shifted copy. -/
theorem win80 (t : Fin cfg0.N) (X : Vec Ideal S1x2880x256 .bf16) (v : Fin 4) (b : ℕ) (h : b + 80 ≤ 2880) (g : Fin 48) (hb : b + 4 * v.val = 60 * g.val)
    (k : Fin 60) (z : Fin 256) :
    k0_pay47 (ld80 t X b h) (P2B (View.canon (fList f)) v) (ix2 (n0 := 64) (n1 := 256) ⟨k.val, by omega⟩ z) = aVal f X g k z := by
  rw [pay47_window _ _ (4 * v.val) (by omega) _ _ (P2_out f hf v _)]
  refine Finset.sum_congr rfl fun j _ => ?_
  rw [P2_in f hf v k j, ld80_apply t X b h ⟨4 * v.val + j.val, by omega⟩ z]
  congr 3
  exact Fin.ext (by show b + (4 * v.val + j.val) = 60 * g.val + j.val; omega)

/-- What the first loop leaves. -/
theorem aList_eq (t : Fin cfg0.N) (X : Vec Ideal S1x2880x256 .bf16) :
    View.canon (aList (wins t X (P2B (View.canon (fList f))))) = flat (aVal f X) :=
  aList_canon _ _
    (fun q k z => win64 f hf t X 0 (by decide) _ (by omega) _ (by show 240 * q.val + 4 * 0 = 60 * (4 * q.val + 0); omega) k z)
    (fun q k z => win80 f hf t X 3 _ (by omega) _ (by show 240 * q.val + 48 + 4 * 3 = 60 * (4 * q.val + 1); omega) k z)
    (fun q k z => win80 f hf t X 2 _ (by omega) _ (by show 240 * q.val + 112 + 4 * 2 = 60 * (4 * q.val + 2); omega) k z)
    (fun q k z => win64 f hf t X 1 (by decide) _ (by omega) _ (by show 240 * q.val + 176 + 4 * 1 = 60 * (4 * q.val + 3); omega) k z)
end

end Cert.TransformIdeal.Gen

end
-- ==== Proof.Ideal.Columns.lean ====
/-
  The second and third loops of the body over the extended reals, index by index.
-/
module

public import proofs.«01_k».proof.Proof.Ideal.Value

@[expose] public section

set_option maxRecDepth 16384

noncomputable section

namespace Cert.TransformIdeal.Gen

open Idealize.ShloMosaic Idealize.ShloMosaic.TcCoe Idealize.ShloMosaic.Tactic Idealize.SL.Sem

/-- A column is every sixtieth row. -/
theorem column_apply (L : List (View.Piece (Elt Ideal) S2x2880x128 .f32)) (c : Fin 2) (k : Fin 60) (i : Fin 48) (z : Fin 128) :
    column L c k (ix2 (n0 := 48) (n1 := 128) i z) = View.canon L (ix3 (n0 := 2) (n1 := 2880) (n2 := 128) c ⟨60 * i.val + k.val, by omega⟩ z) := by
  have hx : Shape.reshapeEquiv (lift_numel k rfl fun _ => rfl) (ix2 (n0 := 48) (n1 := 128) i z) = Fin.cons ⟨0, Nat.one_pos⟩ (ix2 (n0 := 48) (n1 := 128) i z) :=
    Shape.reshapeEquiv_cons_one (d := (strideLoad k).size) _ _
  unfold column LoadRect.valAlong
  rw [View.readCov_eq_canon']
  refine congrArg (View.canon L) ?_
  refine (congrArg _ hx).trans ?_
  funext a
  apply Fin.ext
  match a with
  | ⟨0, _⟩ => show c.val + 0 + 1 * 0 = c.val; omega
  | ⟨1, _⟩ => show 0 + k.val + 60 * i.val = 60 * i.val + k.val; omega
  | ⟨2, _⟩ => show 0 + 0 + 1 * z.val = z.val; omega

section
variable (L : List (View.Piece (Elt Ideal) S2x2880x128 .f32)) (G : Fin 48 → Fin 60 → Fin 256 → EReal) (hL : View.canon L = flat G)
include hL

theorem pay244_column (k : Fin 60) (i : Fin 48) (z : Fin 256) :
    k0_pay244 (column L 0 k) (column L 1 k) (ix2 (n0 := 48) (n1 := 256) i z) = G i k z := by
  rw [pay244_apply]
  by_cases h : z.val < 128
  · rw [dif_pos h, column_apply, hL]
    exact flat_eq G _ _ _ _ rfl (by show 128 * 0 + z.val = z.val; omega)
  · rw [dif_neg h, column_apply, hL]
    exact flat_eq G _ _ _ _ rfl (by show 128 * 1 + (z.val - 128) = z.val; omega)

/-- A column of the transformed tokens. -/
theorem xtCol_apply (hG : ∀ g k z, IsReal (G g k z)) (f : Vec Ideal S48x48 .f32) (hf : ∀ y, IsReal (f y)) (k : Fin 60) (a : Fin 48) (z : Fin 256) :
    xtCol L (k0_pay6 f) k (ix2 (n0 := 48) (n1 := 256) a z) = ∑ i : Fin 48, f (ix2 (n0 := 48) (n1 := 48) a i) * G i k z := by
  unfold xtCol
  rw [pay250_apply _ _ _ _ _ (fun c hc => pay6_high f hf a c hc) (fun i => by rw [pay244_column L G hL]; exact hG _ _ _)]
  refine Finset.sum_congr rfl fun i _ => ?_
  rw [pay244_column L G hL, pay6_low]
end

/-- A column of the transformed tokens read back is the column stored. -/
theorem xtRead_apply (L : List (View.Piece (Elt Ideal) S2x2880x128 .f32)) (P1 : Vec Ideal S48x288 .bf16) (k : Fin 60) (a : Fin 48) (z : Fin 256) :
    xtRead (xtList L P1) k (ix3 (n0 := 1) (n1 := 48) (n2 := 256) 0 a z) = xtCol L P1 k (ix2 (n0 := 48) (n1 := 256) a z) := by
  unfold xtRead
  rw [View.readCov_eq_canon']
  refine (View.canon_apply_of_pieces (fun y : S60x48x256.Idx => xtCol L P1 (y 0) (ix2 (n0 := 48) (n1 := 256) (y 1) (y 2))) (xtList L P1) ?_ _ ?_).trans ?_
  · intro p hp x
    obtain ⟨j, -, rfl⟩ := List.mem_map.mp hp
    have b0 : (x 0).val < 1 := (x 0).isLt
    have hc : ∀ (g : FVec Ideal S48x256 .f32) (x : S1x48x256.Idx), shapeCast S1x48x256 g shapeCasts_S48x256_S1x48x256 x = g (ix2 (n0 := 48) (n1 := 256) (x 1) (x 2)) := by
      intro g x; pointwise
    refine (hc (xtCol L P1 j) x).trans ?_
    have e0 : (Rect.unit (s := S60x48x256) ![j.val, 0, 0] S1x48x256.size (inb_xt j)).emb x 0 = j :=
      Fin.ext ((unit_emb_val (inb_xt j) x 0).trans (by show j.val + (x 0).val = j.val; omega))
    have e1 : (Rect.unit (s := S60x48x256) ![j.val, 0, 0] S1x48x256.size (inb_xt j)).emb x 1 = x 1 :=
      Fin.ext ((unit_emb_val (inb_xt j) x 1).trans (by show 0 + (x 1).val = (x 1).val; omega))
    have e2 : (Rect.unit (s := S60x48x256) ![j.val, 0, 0] S1x48x256.size (inb_xt j)).emb x 2 = x 2 :=
      Fin.ext ((unit_emb_val (inb_xt j) x 2).trans (by show 0 + (x 2).val = (x 2).val; omega))
    show _ = xtCol L P1 ((Rect.unit (s := S60x48x256) ![j.val, 0, 0] S1x48x256.size (inb_xt j)).emb x 0) (ix2 ((Rect.unit (s := S60x48x256) ![j.val, 0, 0] S1x48x256.size (inb_xt j)).emb x 1) ((Rect.unit (s := S60x48x256) ![j.val, 0, 0] S1x48x256.size (inb_xt j)).emb x 2))
    rw [e0, e1, e2]
  · refine ⟨_, List.mem_map.mpr ⟨k, mem_down60 k, rfl⟩, ?_⟩
    exact (LoadRect.mem_set _).mpr fun b => ⟨(ix3 (n0 := 1) (n1 := 48) (n2 := 256) 0 a z b).val, (ix3 (n0 := 1) (n1 := 48) (n2 := 256) 0 a z b).isLt, rfl⟩
  · have e0 : (Rect.unit (s := S60x48x256) ![k.val, 0, 0] S1x48x256.size (inb_xt k)).emb (ix3 (n0 := 1) (n1 := 48) (n2 := 256) 0 a z) 0 = k :=
      Fin.ext (by show k.val + 1 * 0 = k.val; omega)
    have e1 : (Rect.unit (s := S60x48x256) ![k.val, 0, 0] S1x48x256.size (inb_xt k)).emb (ix3 (n0 := 1) (n1 := 48) (n2 := 256) 0 a z) 1 = a :=
      Fin.ext (by show 0 + 1 * a.val = a.val; omega)
    have e2 : (Rect.unit (s := S60x48x256) ![k.val, 0, 0] S1x48x256.size (inb_xt k)).emb (ix3 (n0 := 1) (n1 := 48) (n2 := 256) 0 a z) 2 = z :=
      Fin.ext (by show 0 + 1 * z.val = z.val; omega)
    show xtCol L P1 ((Rect.unit (s := S60x48x256) ![k.val, 0, 0] S1x48x256.size (inb_xt k)).emb (ix3 (n0 := 1) (n1 := 48) (n2 := 256) 0 a z) 0) (ix2 ((Rect.unit (s := S60x48x256) ![k.val, 0, 0] S1x48x256.size (inb_xt k)).emb (ix3 (n0 := 1) (n1 := 48) (n2 := 256) 0 a z) 1) ((Rect.unit (s := S60x48x256) ![k.val, 0, 0] S1x48x256.size (inb_xt k)).emb (ix3 (n0 := 1) (n1 := 48) (n2 := 256) 0 a z) 2)) = _
    rw [e0, e1, e2]

/-! ## The third loop -/

theorem codePair_ok (G : Fin 48 → Fin 60 → Fin 256 → EReal) (k : Fin 60) (C : FVec Ideal S48x256 .f32)
    (h : ∀ (g : Fin 48) (z : Fin 256), C (ix2 (n0 := 48) (n1 := 256) g z) = G g k z) :
    ∀ p ∈ codePair k C, ∀ x, p.2 x = flat G (p.1.emb x) := by
  have hh : ∀ (i : Fin 48) (z : Fin 128), k0_pay765 C (ix2 (n0 := 48) (n1 := 128) i z) = C (ix2 (n0 := 48) (n1 := 256) i ⟨128 + z.val, by omega⟩) := by
    intro i z; pointwise [k0_pay765]
  have hl : ∀ (i : Fin 48) (z : Fin 128), k0_pay763 C (ix2 (n0 := 48) (n1 := 128) i z) = C (ix2 (n0 := 48) (n1 := 256) i ⟨z.val, by omega⟩) := by
    intro i z; pointwise [k0_pay763]
  intro p hp
  unfold codePair at hp
  simp only [List.mem_cons, List.mem_nil_iff, or_false] at hp
  rcases hp with rfl | rfl
  · intro x
    have b0 : (x 0).val < 1 := (x 0).isLt
    have b1 : (x 1).val < 48 := (x 1).isLt
    have b2 : (x 2).val < 128 := (x 2).isLt
    refine (Rect.payAlong_consLift (r := strideRect k) (sz := S1x2880x128.size) (h0 := rfl) (hs := fun _ => rfl) (k0_pay765 C) _ x
      (ix2 (n0 := 48) (n1 := 128) ⟨(x 1).val, b1⟩ ⟨(x 2).val, b2⟩) (fun i => ?_)).trans ((hh _ _).trans ((h _ _).trans (flat_eq G _ _ _ _ ?_ ?_).symm))
    · match i with
      | ⟨0, _⟩ => rfl
      | ⟨1, _⟩ => rfl
    · show 0 + k.val + 60 * (x 1).val = 60 * (x 1).val + k.val; omega
    · show 128 * (1 + 0 + 1 * (x 0).val) + (0 + 0 + 1 * (x 2).val) = 128 + (x 2).val; omega
  · intro x
    have b0 : (x 0).val < 1 := (x 0).isLt
    have b1 : (x 1).val < 48 := (x 1).isLt
    have b2 : (x 2).val < 128 := (x 2).isLt
    refine (Rect.payAlong_consLift (r := strideRect k) (sz := S1x2880x128.size) (h0 := rfl) (hs := fun _ => rfl) (k0_pay763 C) _ x
      (ix2 (n0 := 48) (n1 := 128) ⟨(x 1).val, b1⟩ ⟨(x 2).val, b2⟩) (fun i => ?_)).trans ((hl _ _).trans ((h _ _).trans (flat_eq G _ _ _ _ ?_ ?_).symm))
    · match i with
      | ⟨0, _⟩ => rfl
      | ⟨1, _⟩ => rfl
    · show 0 + k.val + 60 * (x 1).val = 60 * (x 1).val + k.val; omega
    · show 128 * (0 + 0 + 1 * (x 0).val) + (0 + 0 + 1 * (x 2).val) = (x 2).val; omega

theorem codePair_mem (k : Fin 60) (C : FVec Ideal S48x256 .f32) (y : S2x2880x128.Idx) (hy : (y 1).val % 60 = k.val) : ∃ p ∈ codePair k C, y ∈ p.1.set := by
  have b0 : (y 0).val < 2 := (y 0).isLt
  have b1 : (y 1).val < 2880 := (y 1).isLt
  have b2 : (y 2).val < 128 := (y 2).isLt
  by_cases h : (y 0).val = 0
  · refine ⟨⟨(Rect.unit (s := S2x2880x128) ![(0 : Fin 2).val, 0, 0] S1x2880x128.size (inb_c 0)).within ((strideRect k).consLift S1x2880x128.size rfl fun _ => rfl) fun _ => rfl,
      Rect.payAlong (r := strideRect k) (R := (strideRect k).consLift S1x2880x128.size rfl fun _ => rfl) (Rect.numel_consLift _ _ rfl fun _ => rfl) (k0_pay763 C)⟩,
      List.mem_cons_of_mem _ (List.mem_singleton_self _), (LoadRect.mem_set _).mpr fun a => ?_⟩
    match a with
    | ⟨0, _⟩ => exact ⟨0, by show 0 < 1; omega, by show (y 0).val = 0 + 0 + 1 * 0; omega⟩
    | ⟨1, _⟩ => exact ⟨(y 1).val / 60, by show _ < 48; omega, by show (y 1).val = 0 + k.val + 60 * ((y 1).val / 60); omega⟩
    | ⟨2, _⟩ => exact ⟨(y 2).val, b2, by show (y 2).val = 0 + 0 + 1 * (y 2).val; omega⟩
  · refine ⟨⟨(Rect.unit (s := S2x2880x128) ![(1 : Fin 2).val, 0, 0] S1x2880x128.size (inb_c 1)).within ((strideRect k).consLift S1x2880x128.size rfl fun _ => rfl) fun _ => rfl,
      Rect.payAlong (r := strideRect k) (R := (strideRect k).consLift S1x2880x128.size rfl fun _ => rfl) (Rect.numel_consLift _ _ rfl fun _ => rfl) (k0_pay765 C)⟩,
      List.mem_cons_self, (LoadRect.mem_set _).mpr fun a => ?_⟩
    match a with
    | ⟨0, _⟩ => exact ⟨0, by show 0 < 1; omega, by show (y 0).val = 1 + 0 + 1 * 0; omega⟩
    | ⟨1, _⟩ => exact ⟨(y 1).val / 60, by show _ < 48; omega, by show (y 1).val = 0 + k.val + 60 * ((y 1).val / 60); omega⟩
    | ⟨2, _⟩ => exact ⟨(y 2).val, b2, by show (y 2).val = 0 + 0 + 1 * (y 2).val; omega⟩

/-- What the third loop leaves of the codes. -/
theorem codeList_eq (s : FVec Ideal S48x256 .f32) (X : List (View.Piece (Elt Ideal) S60x48x256 .f32)) :
    View.canon (codeList s X) = flat fun g k z => codeCol s (xtRead X k) (ix2 (n0 := 48) (n1 := 256) g z) := by
  funext y
  refine View.canon_apply_of_pieces _ (codeList s X) ?_ y ?_
  · intro p hp
    obtain ⟨k, -, hp⟩ := List.mem_flatMap.mp hp
    exact codePair_ok _ k _ (fun _ _ => rfl) p hp
  · obtain ⟨p, hp, hy⟩ := codePair_mem ⟨(y 1).val % 60, by omega⟩ (codeCol s (xtRead X ⟨(y 1).val % 60, by omega⟩)) y rfl
    exact ⟨p, List.mem_flatMap.mpr ⟨_, mem_down60 _, hp⟩, hy⟩

/-- A code as an eight-bit integer. -/
def narrow (v : EReal) : Elt Ideal .i8 := BitVec.setWidth 8 (FloatOps.fptosi (F := Ideal) (φ := .f32) 32 v)

theorem pay2258_apply (l0 l1 : Vec Ideal S1x32x128 .f32) (r : Fin 32) (z : Fin 256) :
    k0_pay2258 l0 l1 (ix3 (n0 := 1) (n1 := 32) (n2 := 256) 0 r z) = narrow (if h : z.val < 128 then l0 (ix3 (n0 := 1) (n1 := 32) (n2 := 128) 0 r ⟨z.val, h⟩)
      else l1 (ix3 (n0 := 1) (n1 := 32) (n2 := 128) 0 r ⟨z.val - 128, by omega⟩)) := by
  pointwise [k0_pay2258, narrow]

/-- The codes a point leaves. -/
theorem codesOut_apply (C : List (View.Piece (Elt Ideal) S2x2880x128 .f32)) (G : Fin 48 → Fin 60 → Fin 256 → EReal) (hC : View.canon C = flat G)
    (g : Fin 48) (k : Fin 60) (z : Fin 256) :
    View.canon (codesOut C) (ix3 (n0 := 1) (n1 := 2880) (n2 := 256) 0 ⟨60 * g.val + k.val, by omega⟩ z) = narrow (G g k z) := by
  refine (View.canon_apply_of_pieces (fun y : S1x2880x256.Idx => narrow (G ⟨(y 1).val / 60, by have h : (y 1).val < 2880 := (y 1).isLt; omega⟩ ⟨(y 1).val % 60, by omega⟩ (y 2)))
    (codesOut C) ?_ _ ?_).trans ?_
  · intro p hp x
    obtain ⟨j, -, rfl⟩ := List.mem_map.mp hp
    have b0 : (x 0).val < 1 := (x 0).isLt
    have b1 : (x 1).val < 32 := (x 1).isLt
    have b2 : (x 2).val < 256 := (x 2).isLt
    have hx : x = ix3 (n0 := 1) (n1 := 32) (n2 := 256) 0 (x 1) (x 2) := by
      funext a
      match a with
      | ⟨0, _⟩ => exact Fin.ext (by show (x 0).val = 0; omega)
      | ⟨1, _⟩ => rfl
      | ⟨2, _⟩ => rfl
    refine (congrArg _ hx).trans ((pay2258_apply _ _ (x 1) (x 2)).trans ?_)
    refine congrArg narrow ?_
    have e1 : ((Rect.unit (s := S1x2880x256) ![0, 32 * j.val, 0] S1x32x256.size (inb_o j)).emb x 1).val = 32 * j.val + (x 1).val := unit_emb_val (inb_o j) x 1
    have e2 : (Rect.unit (s := S1x2880x256) ![0, 32 * j.val, 0] S1x32x256.size (inb_o j)).emb x 2 = x 2 :=
      Fin.ext ((unit_emb_val (inb_o j) x 2).trans (by show 0 + (x 2).val = (x 2).val; omega))
    rw [e2]
    by_cases h : (x 2).val < 128
    · rw [dif_pos h, View.readCov_eq_canon', hC]
      refine flat_eq G _ _ _ _ ?_ ?_
      · show 32 * j.val + 1 * (x 1).val = 60 * (_ / 60) + _ % 60
        rw [e1]; omega
      · show 128 * (0 + 1 * 0) + (0 + 1 * (x 2).val) = (x 2).val; omega
    · rw [dif_neg h, View.readCov_eq_canon', hC]
      refine flat_eq G _ _ _ _ ?_ ?_
      · show 32 * j.val + 1 * (x 1).val = 60 * (_ / 60) + _ % 60
        rw [e1]; omega
      · show 128 * (1 + 1 * 0) + (0 + 1 * ((x 2).val - 128)) = (x 2).val; omega
  · have hj : (60 * g.val + k.val) / 32 < 90 := by omega
    refine ⟨_, List.mem_map.mpr ⟨⟨(60 * g.val + k.val) / 32, hj⟩, mem_down90 _, rfl⟩, (Rect.mem_set_unit (inb := inb_o ⟨(60 * g.val + k.val) / 32, hj⟩)).mpr fun a => ?_⟩
    match a with
    | ⟨0, _⟩ => exact ⟨Nat.zero_le _, Nat.lt_succ_self _⟩
    | ⟨1, _⟩ => exact ⟨by show 32 * ((60 * g.val + k.val) / 32) ≤ 60 * g.val + k.val; omega, by show 60 * g.val + k.val < 32 * ((60 * g.val + k.val) / 32) + 32; omega⟩
    | ⟨2, _⟩ => exact ⟨Nat.zero_le _, by show z.val < 0 + 256; omega⟩
  · refine congrArg narrow ?_
    exact congr (congr (congrArg G (Fin.ext (by show (60 * g.val + k.val) / 60 = g.val; omega))) (Fin.ext (by show (60 * g.val + k.val) % 60 = k.val; omega))) rfl

end Cert.TransformIdeal.Gen

end
-- ==== Proof.Ideal.Frame.lean ====
/-
  The transform call's frame with its values named: the region's invariant (the carried scratch at what the point before
  left, the last rows of `c4` zero), the body at a generic point, the run of the whole program.
-/
module

public import proofs.«01_k».proof.Proof.Ideal.Outs
public import Idealize.ShloMosaic.Lib.Claim

@[expose] public section

-- membership in a rectangle of production extents (`View.cover_of_tiled`): the elaborator's structural look
-- recurses once per coordinate of the long axes
set_option maxRecDepth 16384

noncomputable section

namespace Cert.TransformIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2) ∗ (∃ d, owns (c : Thread nD τ) scM0_4 fullShare d) ∗ (∃ d, owns (c : Thread nD τ) scM0_5 fullShare d) ∗ (∃ d, owns (c : Thread nD τ) scM0_6 fullShare d) ∗ (∃ f, scM0_7.view.loc (c : Thread nD τ) ↦[scM0_7.view.set]{fullShare} scM0_7.view.writes (Elt F) f zeroRows) ∗ (∃ d, owns (c : Thread nD τ) scM0_8 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2) ∗ (∃ d, owns (c : Thread nD τ) scM0_4 fullShare d) ∗ (∃ d, owns (c : Thread nD τ) scM0_5 fullShare d) ∗ (∃ d, owns (c : Thread nD τ) scM0_6 fullShare d) ∗ (∃ f, scM0_7.view.loc (c : Thread nD τ) ↦[scM0_7.view.set]{fullShare} scM0_7.view.writes (Elt F) f zeroRows) ∗ (∃ d, owns (c : Thread nD τ) scM0_8 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2.1) ∗ owns (c : Thread nD τ) scM0_3 fullShare ((outsAt0 m c (n - 1) (by omega)).2.2.2.2.2.2.2.2.2) ∗ (∃ d, owns (c : Thread nD τ) scM0_4 fullShare d) ∗ (∃ d, owns (c : Thread nD τ) scM0_5 fullShare d) ∗ (∃ d, owns (c : Thread nD τ) scM0_6 fullShare d) ∗ (∃ f, scM0_7.view.loc (c : Thread nD τ) ↦[scM0_7.view.set]{fullShare} scM0_7.view.writes (Elt F) f zeroRows) ∗ (∃ d, owns (c : Thread nD τ) scM0_8 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
    | ⟨12, _⟩ => (outsAt0 m c t.val t.isLt).2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2.1 := by dsimp only [dats]
theorem after0_12 (c : Dev nD) (t : Fin cfg0.N) : (dats m 0 c).after 12 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 96 = 0) (d) :
    (dats m 0 c).before 11 t d = (outsAt0 m c (t.val - 1) (Nat.lt_of_le_of_lt (Nat.sub_le _ _) t.isLt)).2.2.2.2.1 := by
  have hN : t.val < 96 := lt_of_lt_of_eq t.isLt (show cfg0.N = 96 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut (Lib/Pipeline/Frame.lean
    `Dat.before_out_kept`). -/
theorem before0_12_B (c : Dev nD) (t : Fin cfg0.N) (h0 : ¬t.val % 96 = 0) (d) :
    (dats m 0 c).before 12 t d = (outsAt0 m c (t.val - 1) (Nat.lt_of_le_of_lt (Nat.sub_le _ _) t.isLt)).2.2.2.2.2.1 := by
  have hN : t.val < 96 := lt_of_lt_of_eq t.isLt (show cfg0.N = 96 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hN : t.val < 96 := lt_of_lt_of_eq t.isLt (show cfg0.N = 96 from N_0)
  by_cases h0 : t.val % 96 = 0
  · by_cases hz : t.val = 0
    · rw [PhiS_castSucc m c t, PhiS_zero m c _ _ hz, PhiA0_eq]
      rw [outsAt0_A m c t h0]
      unfold outA; (try dsimp only)
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA m c t h0).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%es3, HS3⟩, ⟨%fT4, HS4⟩, ⟨%fT5, HS5⟩, ⟨%fT6, HS6⟩, ⟨%fT7, HS7⟩, HS8⟩
      isplitl [HS0 HS1 HS2 HS3 HS4 HS5 HS6 HS7 HS8 Hg]
      · isplitl [HS0 HS1 HS2 HS3 HS4 HS5 HS6 HS7 HS8]
        · isplitl [HS0]
          · unfold owns; iexists _; isplitr
            swap; · iexact HS0
            ipureintro; exact View.read_writes_eq_canon _ _ _ (scover0_A_0 m c t h0)
          isplitl [HS1]
          · unfold owns; iexists _; isplitr
            swap; · iexact HS1
            ipureintro; exact View.read_writes_eq_canon _ _ _ (scover0_A_1 m c t h0)
          isplitl [HS2]
          · unfold owns; iexists _; isplitr
            swap; · iexact HS2
            ipureintro; exact View.read_writes_eq_canon _ _ _ (scover0_A_2 m c t h0)
          isplitl [HS3]
          · unfold owns; iexists _; isplitr
            swap; · iexact HS3
            ipureintro; exact View.read_writes_eq_canon _ _ _ (scover0_A_3 m c t h0)
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iapply (keepZero c _ (zeroA m c t h0) (lowA m c t h0) fT7); iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_eq_canon _ _ _ (cover0_A_7 m c t h0)
      isplitl [H8]
      · unfold owns; iexists _; isplitr
        swap; · iexact H8
        ipureintro; exact View.read_writes_eq_canon _ _ _ (cover0_A_8 m c t h0)
      isplitl [H9]
      · unfold owns; iexists _; isplitr
        swap; · iexact H9
        ipureintro; exact View.read_writes_eq_canon _ _ _ (cover0_A_9 m c t h0)
      isplitl [H10]
      · unfold owns; iexists _; isplitr
        swap; · iexact H10
        ipureintro; exact View.read_writes_eq_canon _ _ _ (cover0_A_10 m c t h0)
      isplitl [H11]
      · unfold owns; iexists _; isplitr
        swap; · iexact H11
        ipureintro; exact View.read_writes_eq_canon _ _ _ (cover0_A_11 m c t h0)
      unfold owns; iexists _; isplitr
      swap; · iexact H12
      ipureintro; exact View.read_writes_eq_canon _ _ _ (cover0_A_12 m c t h0)
    · exfalso; have hN : t.val < 96 := lt_of_lt_of_eq t.isLt (show cfg0.N = 96 from N_0); omega
  · by_cases hz : t.val = 0
    · exfalso; have hN : t.val < 96 := lt_of_lt_of_eq t.isLt (show cfg0.N = 96 from N_0); omega
    · rw [PhiS_castSucc m c t, PhiS_pos m c _ _ hz]
      rw [outsAt0_B m c t h0]
      simp only [before0_11_B m c t h0, before0_12_B m c t h0]
      unfold outB; (try dsimp only)
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB m c t h0 (outsAt0 m c (t.val - 1) (Nat.lt_of_le_of_lt (Nat.sub_le _ _) t.isLt))).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexact H11
      isplitl [H12]; · iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, ⟨%e7, H7⟩, ⟨%e8, H8⟩, ⟨%e9, H9⟩, ⟨%e10, H10⟩, ⟨%e11, H11⟩, ⟨%e12, H12⟩, HS0, HS1, HS2, HS3, ⟨%fT4, HS4⟩, ⟨%fT5, HS5⟩, ⟨%fT6, HS6⟩, ⟨%fT7, HS7⟩, HS8⟩
      isplitl [HS0 HS1 HS2 HS3 HS4 HS5 HS6 HS7 HS8 Hg]
      · isplitl [HS0 HS1 HS2 HS3 HS4 HS5 HS6 HS7 HS8]
        · isplitl [HS0]
          · iexact HS0
          isplitl [HS1]
          · iexact HS1
          isplitl [HS2]
          · iexact HS2
          isplitl [HS3]
          · iexact HS3
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iapply (keepZero c _ (zeroB m c t h0 _) (lowB m c t h0 _) fT7); iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_eq_canon _ _ _ (cover0_B_7 m c t h0 _)
      isplitl [H8]
      · unfold owns; iexists _; isplitr
        swap; · iexact H8
        ipureintro; exact View.read_writes_eq_canon _ _ _ (cover0_B_8 m c t h0 _)
      isplitl [H9]
      · unfold owns; iexists _; isplitr
        swap; · iexact H9
        ipureintro; exact View.read_writes_eq_canon _ _ _ (cover0_B_9 m c t h0 _)
      isplitl [H10]
      · unfold owns; iexists _; isplitr
        swap; · iexact H10
        ipureintro; exact View.read_writes_eq_canon _ _ _ (cover0_B_10 m c t h0 _)
      isplitl [H11]
      · unfold owns; iexists _; isplitr
        swap; · iexact H11
        ipureintro; exact View.read_writes_eq_canon _ _ _ (cover0_B_11 m c t h0 _)
      unfold owns; iexists _; isplitr
      swap; · iexact H12
      ipureintro; exact View.read_writes_eq_canon _ _ _ (cover0_B_12 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexists _; iexact HS3
    isplitl [HS4]
    · iexact HS4
    isplitl [HS5]
    · iexact HS5
    isplitl [HS6]
    · iexact HS6
    isplitl [HS7]
    · icases HS7 with ⟨%f7, HS7⟩; iexists _; unfold owns; iexists _; isplitr
      swap; · iexact HS7
      ipureintro; rfl
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- the implicit arguments are found by unifying the conclusion with this one, which takes unfolding plain definitions in a
-- metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every weakly fair execution of @main terminates with every array of the pipeline at what the proof data computes and
    every other unscoped buffer at what the host lines after the region leave in it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_TransformIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.TransformIdeal.Gen

end
-- ==== Proof.Ideal.Points.lean ====
/-
  What each grid point leaves of the codes and the scales, over the arrays the call finds.
-/
module

public import proofs.«01_k».proof.Proof.Ideal.Columns
public import proofs.«01_k».proof.Proof.Ideal.Frame

@[expose] public section

set_option maxRecDepth 16384

noncomputable section

namespace Cert.TransformIdeal.Gen

open Idealize.ShloMosaic Idealize.ShloMosaic.TcCoe Idealize.ShloMosaic.Tactic Idealize.SL.Sem

variable (m : (ℓ : Loc nD τ sig) → Buf (Elt Ideal) ℓ) (c : Dev nD)

/-- Where the windows sit at each grid point. -/
theorem idxT : ∀ t : Fin cfg0.N, win0_0.index t = ![0, 0] ∧ win0_1.index t = ![t.val / 4, 0, t.val % 4] ∧ win0_4.index t = ![0, 0] ∧ win0_6.index t = ![0, 0]
    ∧ win0_8.index t = ![t.val / 4, 0, t.val % 4] ∧ win0_9.index t = ![t.val / 4, 0, t.val % 4] ∧ t.val < 96 :=
  (by decide +kernel : ∀ t : Fin grid0.N, _)

/-- The whole factors, read from their staging buffers. -/
theorem p1tOf_eq (t : Fin cfg0.N) (x : Vec Ideal S48x48 .f32) : p1tOf t x = x := by
  funext y
  unfold p1tOf
  rw [Memref.IsWhole.readAt_unread]
  refine congrArg x ?_
  funext a
  apply Fin.ext
  match a with
  | ⟨0, _⟩ => show 0 + 1 * (y 0).val = (y 0).val; omega
  | ⟨1, _⟩ => show 0 + 1 * (y 1).val = (y 1).val; omega
theorem p2tOf_eq (t : Fin cfg0.N) (x : Vec Ideal S60x60 .f32) : p2tOf t x = x := by
  funext y
  unfold p2tOf
  rw [Memref.IsWhole.readAt_unread]
  refine congrArg x ?_
  funext a
  apply Fin.ext
  match a with
  | ⟨0, _⟩ => show 0 + 1 * (y 0).val = (y 0).val; omega
  | ⟨1, _⟩ => show 0 + 1 * (y 1).val = (y 1).val; omega
theorem alphaOf_eq (t : Fin cfg0.N) (x : Vec Ideal S1x1 .f32) : alphaOf t x = x (ix2 (n0 := 1) (n1 := 1) 0 0) := by
  unfold alphaOf
  rw [Memref.IsWhole.readAt_unread]
  refine congrArg x ?_
  funext a
  apply Fin.ext
  match a with
  | ⟨0, _⟩ => rfl
  | ⟨1, _⟩ => rfl

theorem iblk_p1 (t : Fin cfg0.N) : iblk m c 4 t = V m c main_v2 := by
  funext y
  blk_point [iblk, idxT t]
theorem iblk_p2 (t : Fin cfg0.N) : iblk m c 6 t = V m c main_v3 := by
  funext y
  blk_point [iblk, idxT t]
theorem iblk_alpha (t : Fin cfg0.N) : iblk m c 0 t = V m c main_v1 := by
  funext y
  blk_point [iblk, idxT t]

section
variable (t : Fin cfg0.N)

theorem outA_p1 (h0 : t.val % 96 = 0) : (outA m c t h0).2.2.2.2.2.2.1 = View.canon (gList (p1tOf t (iblk m c 4 t))) := by sl_kernel_rfl
theorem outA_p2 (h0 : t.val % 96 = 0) : (outA m c t h0).2.2.2.2.2.2.2.2.1 = View.canon (fList (p2tOf t (iblk m c 6 t))) := by sl_kernel_rfl
theorem outA_s (h0 : t.val % 96 = 0) : (outA m c t h0).2.2.1 = View.canon (sList (alphaOf t (iblk m c 0 t))
    (aList (wins t (iblk m c 1 t) (P2A (fList (p2tOf t (iblk m c 6 t)))))) (P1A (gList (p1tOf t (iblk m c 4 t))))) := by sl_kernel_rfl
theorem outA_codes (h0 : t.val % 96 = 0) : (outA m c t h0).2.1 = View.canon (codesOf t (iblk m c 0 t) (iblk m c 1 t)
    (P2A (fList (p2tOf t (iblk m c 6 t)))) (P1A (gList (p1tOf t (iblk m c 4 t))))) := by sl_kernel_rfl
theorem outB_kept (h0 : ¬t.val % 96 = 0) (p : Outs Ideal) : (outB m c t h0 p).2.2.2.2.2.2 = p.2.2.2.2.2.2 := by sl_kernel_rfl
theorem outB_s (h0 : ¬t.val % 96 = 0) (p : Outs Ideal) : (outB m c t h0 p).2.2.1 = View.canon (sList (alphaOf t (iblk m c 0 t))
    (aList (wins t (iblk m c 1 t) (P2B p.2.2.2.2.2.2.2.2.1))) (P1B p.2.2.2.2.2.2.1)) := by sl_kernel_rfl
theorem outB_codes (h0 : ¬t.val % 96 = 0) (p : Outs Ideal) : (outB m c t h0 p).2.1
    = View.canon (codesOf t (iblk m c 0 t) (iblk m c 1 t) (P2B p.2.2.2.2.2.2.2.2.1) (P1B p.2.2.2.2.2.2.1)) := by sl_kernel_rfl
end

attribute [local irreducible] outA outB

/-- The factors every point carries. -/
theorem carried (c : Dev nD) : ∀ (n : ℕ) (hn : n < cfg0.N), (outsAt0 m c n hn).2.2.2.2.2.2.1 = k0_pay6 (V m c main_v2)
    ∧ (outsAt0 m c n hn).2.2.2.2.2.2.2.2.1 = View.canon (fList (V m c main_v3)) := by
  have hA : ∀ (t : Fin cfg0.N) (h0 : t.val % 96 = 0), (outA m c t h0).2.2.2.2.2.2.1 = k0_pay6 (V m c main_v2)
      ∧ (outA m c t h0).2.2.2.2.2.2.2.2.1 = View.canon (fList (V m c main_v3)) := fun t h0 =>
    ⟨(outA_p1 m c t h0).trans (by rw [p1tOf_eq, iblk_p1, first1_eq]), (outA_p2 m c t h0).trans (by rw [p2tOf_eq, iblk_p2])⟩
  intro n
  induction n with
  | zero =>
    intro hn
    rw [show outsAt0 m c 0 hn = outA m c ⟨0, hn⟩ (Nat.zero_mod _) from outsAt0_A m c ⟨0, hn⟩ (Nat.zero_mod _)]
    exact hA ⟨0, hn⟩ (Nat.zero_mod _)
  | succ n ih =>
    intro hn
    by_cases h0 : (n + 1) % 96 = 0
    · rw [show outsAt0 m c (n + 1) hn = outA m c ⟨n + 1, hn⟩ h0 from outsAt0_A m c ⟨n + 1, hn⟩ h0]
      exact hA ⟨n + 1, hn⟩ h0
    · rw [show outsAt0 m c (n + 1) hn = outB m c ⟨n + 1, hn⟩ h0 (outsAt0 m c n (Nat.lt_of_succ_lt hn)) from outsAt0_B m c ⟨n + 1, hn⟩ h0,
        outB_kept]
      exact ih (Nat.lt_of_succ_lt hn)

/-- The second factor's shifted copies, and the first factor's blocks, as every point reads them. -/
abbrev PP (c : Dev nD) : Fin 4 → Vec Ideal S1x64x240 .bf16 := P2B (View.canon (fList (V m c main_v3)))
abbrev QQ (c : Dev nD) : Vec Ideal S48x288 .bf16 := k0_pay6 (V m c main_v2)

/-- The codes a point leaves. -/
theorem codes_at (t : Fin cfg0.N) : (outsAt0 m c t.val t.isLt).2.1
    = View.canon (codesOf t (V m c main_v1) (iblk m c 1 t) (PP m c) (QQ m c)) := by
  by_cases h0 : t.val % 96 = 0
  · rw [outsAt0_A m c t h0, outA_codes, P2A_eq, P1A_eq, P1B_eq, p1tOf_eq, p2tOf_eq, iblk_p1, iblk_p2, first1_eq, iblk_alpha]
  · rw [outsAt0_B m c t h0, outB_codes, (carried m c _ _).1, (carried m c _ _).2, P1B_eq, iblk_alpha]

/-- The scales a point leaves. -/
theorem s_at (t : Fin cfg0.N) : (outsAt0 m c t.val t.isLt).2.2.1
    = View.canon (sList (alphaOf t (V m c main_v1)) (aList (wins t (iblk m c 1 t) (PP m c))) (QQ m c)) := by
  by_cases h0 : t.val % 96 = 0
  · rw [outsAt0_A m c t h0, outA_s, P2A_eq, P1A_eq, P1B_eq, p1tOf_eq, p2tOf_eq, iblk_p1, iblk_p2, first1_eq, iblk_alpha]
  · rw [outsAt0_B m c t h0, outB_s, (carried m c _ _).1, (carried m c _ _).2, P1B_eq, iblk_alpha]

/-! ## The values of a point -/

/-- The largest of a list against a bound, and each member against it. -/
theorem foldl_max_le {ι : Type} (g : ι → EReal) (b : EReal) : ∀ (l : List ι) (a : EReal), a ≤ b → (∀ k ∈ l, g k ≤ b) → l.foldl (fun acc k => max acc (g k)) a ≤ b
  | [], a, h, _ => h
  | k :: l, a, h, hl => foldl_max_le g b l _ (max_le h (hl k (by simp))) fun j hj => hl j (List.mem_cons_of_mem _ hj)
theorem le_foldl_max {ι : Type} (g : ι → EReal) : ∀ (l : List ι) (a : EReal), a ≤ l.foldl (fun acc k => max acc (g k)) a ∧ ∀ k ∈ l, g k ≤ l.foldl (fun acc k => max acc (g k)) a
  | [], a => ⟨le_refl _, by simp⟩
  | k :: l, a => ⟨(le_max_left _ _).trans (le_foldl_max g l _).1, fun j hj => by
      rcases List.mem_cons.mp hj with rfl | hj
      · exact (le_max_right _ _).trans (le_foldl_max g l _).1
      · exact (le_foldl_max g l _).2 j hj⟩

theorem mem_up60 : ∀ k : Fin 60, k = 0 ∨ k ∈ up60 := by decide

/-- The largest over the columns, taken one after the other, is the largest. -/
theorem foldl_up60 (g : Fin 60 → EReal) : up60.foldl (fun acc k => max acc (g k)) (g 0) = Finset.univ.sup g := by
  apply le_antisymm
  · exact foldl_max_le g _ _ _ (Finset.le_sup (f := g) (Finset.mem_univ 0)) fun k _ => Finset.le_sup (f := g) (Finset.mem_univ k)
  · refine Finset.sup_le fun k _ => ?_
    rcases mem_up60 k with rfl | h
    · exact (le_foldl_max g _ _).1
    · exact (le_foldl_max g _ _).2 k h

theorem foldl_apply (g : Fin 60 → FVec Ideal S48x256 .f32) (y : S48x256.Idx) : ∀ (l : List (Fin 60)) (a : FVec Ideal S48x256 .f32),
    l.foldl (fun acc k => maximumf acc (absf (g k))) a y = l.foldl (fun acc k => max acc (FloatOps.absf (F := Ideal) (φ := .f32) (g k y))) (a y : EReal)
  | [], a => rfl
  | k :: l, a => (foldl_apply g y l _).trans rfl

/-- The largest magnitude of a row. -/
def maxAbs (u : Fin 60 → EReal) : EReal := Finset.univ.sup fun k => (FloatOps.absf (F := Ideal) (φ := .f32) (u k) : EReal)

theorem rowMax_apply (L : List (View.Piece (Elt Ideal) S2x2880x128 .f32)) (P1 : Vec Ideal S48x288 .bf16) (y : S48x256.Idx) :
    rowMax L P1 y = maxAbs fun k => xtCol L P1 k y := by
  unfold rowMax
  rw [foldl_apply (fun k => xtCol L P1 k) y]
  exact foldl_up60 fun k => (FloatOps.absf (F := Ideal) (φ := .f32) (xtCol L P1 k y) : EReal)

/-- The quantiser's scale of a row. -/
def scaleVal (α M : EReal) : EReal :=
  Scalar.select (FloatOps.cmpf (F := Ideal) (φ := .f32) .oeq M (Scalar.ofBits .f32 0x00000000#32 : Ideal .f32)) (Scalar.ofBits .f32 0x3F800000#32 : Ideal .f32)
    (FloatOps.divf (F := Ideal) (φ := .f32) (FloatOps.mulf (F := Ideal) (φ := .f32) α M) (Scalar.ofBits .f32 0x40E00000#32 : Ideal .f32))

/-- The code of a value at a scale. -/
def codeVal (s x : EReal) : EReal :=
  FloatOps.minimumf (F := Ideal) (φ := .f32) (Scalar.ofBits .f32 0x40E00000#32 : Ideal .f32)
    (FloatOps.maximumf (F := Ideal) (φ := .f32) (Scalar.ofBits .f32 0xC0E00000#32 : Ideal .f32)
      (FloatOps.roundeven (F := Ideal) (φ := .f32) (FloatOps.divf (F := Ideal) (φ := .f32) x s)))

theorem scaleOf_apply (α : Elt Ideal .f32) (M : FVec Ideal S48x256 .f32) (y : S48x256.Idx) : scaleOf α M y = scaleVal α (M y) := rfl

theorem codeCol_apply (s : FVec Ideal S48x256 .f32) (x : Vec Ideal S1x48x256 .f32) (a : Fin 48) (z : Fin 256) :
    codeCol s x (ix2 (n0 := 48) (n1 := 256) a z) = codeVal (s (ix2 (n0 := 48) (n1 := 256) a z)) (x (ix3 (n0 := 1) (n1 := 48) (n2 := 256) 0 a z)) := by
  pointwise [codeCol, k0_pay752, k0_pay751, k0_pay750, codeVal]

/-- Entry `k` of row `a` of the transformed tokens of a block. -/
def xtVal (f1 : Vec Ideal S48x48 .f32) (f2 : Vec Ideal S60x60 .f32) (X : Vec Ideal S1x2880x256 .bf16) (a : Fin 48) (k : Fin 60) (z : Fin 256) : EReal :=
  ∑ i : Fin 48, f1 (ix2 (n0 := 48) (n1 := 48) a i) * aVal f2 X i k z

section
variable (f1 : Vec Ideal S48x48 .f32) (f2 : Vec Ideal S60x60 .f32) (h1 : ∀ y, IsReal (f1 y)) (h2 : ∀ y, IsReal (f2 y))
  (t : Fin cfg0.N) (X : Vec Ideal S1x2880x256 .bf16) (hX : ∀ y, IsReal (X y))
include h1 h2 hX

theorem xtCol_point (k : Fin 60) (a : Fin 48) (z : Fin 256) :
    xtCol (aList (wins t X (P2B (View.canon (fList f2))))) (k0_pay6 f1) k (ix2 (n0 := 48) (n1 := 256) a z) = xtVal f1 f2 X a k z :=
  xtCol_apply _ _ (aList_eq f2 h2 t X) (fun g k z => IsReal.sum fun j => (h2 _).mul (hX _)) f1 h1 k a z

/-- The scales of a point. -/
theorem sOf_point (α : Vec Ideal S1x1 .f32) (a : Fin 48) (z : Fin 256) :
    scaleOf (alphaOf t α) (rowMax (aList (wins t X (P2B (View.canon (fList f2))))) (k0_pay6 f1)) (ix2 (n0 := 48) (n1 := 256) a z)
      = scaleVal (α (ix2 (n0 := 1) (n1 := 1) 0 0)) (maxAbs fun k => xtVal f1 f2 X a k z) := by
  rw [scaleOf_apply, rowMax_apply, alphaOf_eq]
  simp only [xtCol_point f1 f2 h1 h2 t X hX]

theorem sList_point (α : Vec Ideal S1x1 .f32) (a : Fin 48) (z : Fin 256) :
    View.canon (sList (alphaOf t α) (aList (wins t X (P2B (View.canon (fList f2))))) (k0_pay6 f1)) (ix3 (n0 := 1) (n1 := 48) (n2 := 256) 0 a z)
      = scaleVal (α (ix2 (n0 := 1) (n1 := 1) 0 0)) (maxAbs fun k => xtVal f1 f2 X a k z) := by
  have hc : ∀ (g : FVec Ideal S48x256 .f32) (x : S1x48x256.Idx), shapeCast S1x48x256 g shapeCasts_S48x256_S1x48x256 x = g (ix2 (n0 := 48) (n1 := 256) (x 1) (x 2)) := by
    intro g x; pointwise
  refine (congrFun (View.canon_unit_zero (by funext a; fin_cases a <;> rfl) _ _) _).trans ?_
  refine (hc _ _).trans ?_
  exact sOf_point f1 f2 h1 h2 t X hX α a z

theorem codes_point (α : Vec Ideal S1x1 .f32) (a : Fin 48) (k : Fin 60) (z : Fin 256) :
    View.canon (codesOf t α X (P2B (View.canon (fList f2))) (k0_pay6 f1)) (ix3 (n0 := 1) (n1 := 2880) (n2 := 256) 0 ⟨60 * a.val + k.val, by omega⟩ z)
      = narrow (codeVal (scaleVal (α (ix2 (n0 := 1) (n1 := 1) 0 0)) (maxAbs fun k => xtVal f1 f2 X a k z)) (xtVal f1 f2 X a k z)) := by
  refine (codesOut_apply _ _ (codeList_eq _ _) a k z).trans (congrArg narrow ?_)
  refine (codeCol_apply _ _ a z).trans ?_
  rw [xtRead_apply, xtCol_point f1 f2 h1 h2 t X hX]
  exact congrArg (fun s => codeVal s _) (sOf_point f1 f2 h1 h2 t X hX α a z)
end

end Cert.TransformIdeal.Gen

end
-- ==== Proof.Ideal.Result.lean ====
/-
  The two arrays of codes and scales the transform's program ends with, as terms of its arguments.
-/
module

public import proofs.«01_k».proof.Proof.Ideal.Points

@[expose] public section

set_option maxRecDepth 16384

noncomputable section

namespace Cert.TransformIdeal.Gen

open Idealize.ShloMosaic Idealize.ShloMosaic.TcCoe Idealize.ShloMosaic.Tactic Idealize.SL.Sem

/-- Entry `k` of row `a` of token `n` of sequence `b` after the transform: both factors applied, over the transposed arguments. -/
def gVal (f1 : Vec Ideal S48x48 .f32) (f2 : Vec Ideal S60x60 .f32) (X : Vec Ideal S24x2880x1024 .bf16) (b : Fin 24) (a : Fin 48) (k : Fin 60) (n : Fin 1024) : EReal :=
  ∑ i : Fin 48, f1 (ix2 (n0 := 48) (n1 := 48) a i)
    * ∑ j : Fin 60, f2 (ix2 (n0 := 60) (n1 := 60) k j) * X (ix3 (n0 := 24) (n1 := 2880) (n2 := 1024) b ⟨60 * i.val + j.val, by omega⟩ n)

/-- The scales, `[sequence, row, token]`. -/
def sArr (α : Vec Ideal S1x1 .f32) (f1 : Vec Ideal S48x48 .f32) (f2 : Vec Ideal S60x60 .f32) (X : Vec Ideal S24x2880x1024 .bf16) : Vec Ideal S24x48x1024 .f32 :=
  fun y => scaleVal (α (ix2 (n0 := 1) (n1 := 1) 0 0)) (maxAbs fun k => gVal f1 f2 X (y 0) (y 1) k (y 2))

/-- The codes, `[sequence, row and entry, token]`. -/
def codeArr (α : Vec Ideal S1x1 .f32) (f1 : Vec Ideal S48x48 .f32) (f2 : Vec Ideal S60x60 .f32) (X : Vec Ideal S24x2880x1024 .bf16) : Vec Ideal S24x2880x1024 .i8 :=
  fun y =>
    have h : (y 1).val < 2880 := (y 1).isLt
    narrow (codeVal (scaleVal (α (ix2 (n0 := 1) (n1 := 1) 0 0)) (maxAbs fun k => gVal f1 f2 X (y 0) ⟨(y 1).val / 60, by omega⟩ k (y 2)))
      (gVal f1 f2 X (y 0) ⟨(y 1).val / 60, by omega⟩ ⟨(y 1).val % 60, by omega⟩ (y 2)))

variable (m : (ℓ : Loc nD τ sig) → Buf (Elt Ideal) ℓ) (c : Dev nD)

/-- A block of the tokens is read from the array the call finds. -/
theorem iblk_x (t : Fin cfg0.N) (r : Fin 2880) (z : Fin 256) :
    iblk m c 1 t (ix3 (n0 := 1) (n1 := 2880) (n2 := 256) 0 r z)
      = V m c main_v0 (ix3 (n0 := 24) (n1 := 2880) (n2 := 1024) ⟨t.val / 4, by have := (idxT t).2.2.2.2.2.2; omega⟩ r ⟨256 * (t.val % 4) + z.val, by omega⟩) := by
  blk_point [iblk, idxT t]

theorem xtVal_block (f1 : Vec Ideal S48x48 .f32) (f2 : Vec Ideal S60x60 .f32) (t : Fin cfg0.N) (a : Fin 48) (k : Fin 60) (z : Fin 256) :
    xtVal f1 f2 (iblk m c 1 t) a k z
      = gVal f1 f2 (V m c main_v0) ⟨t.val / 4, by have := (idxT t).2.2.2.2.2.2; omega⟩ a k ⟨256 * (t.val % 4) + z.val, by omega⟩ := by
  unfold xtVal gVal aVal
  refine Finset.sum_congr rfl fun i _ => congrArg _ (Finset.sum_congr rfl fun j _ => congrArg _ ?_)
  exact iblk_x m c t _ z

/-- The place of a block's index in array 9. -/
theorem emb9 (t : Fin cfg0.N) (y : S1x48x256.Idx) : ((cfg0.win 9).blk t).view.emb y = ix3 (n0 := 24) (n1 := 48) (n2 := 1024)
      ⟨t.val / 4, by have := (idxT t).2.2.2.2.2.2; omega⟩ (y 1) ⟨256 * (t.val % 4) + (y 2).val, by have h : (y 2).val < 256 := (y 2).isLt; omega⟩ := by
  refine funext fun a => Fin.ext ?_
  have h := idxT t
  match a with
  | ⟨0, _⟩ =>
    show win0_9.index t 0 * 1 + 1 * (y 0).val = t.val / 4
    have h0 : (y 0).val < 1 := (y 0).isLt
    rw [h.2.2.2.2.2.1]
    show t.val / 4 * 1 + 1 * (y 0).val = t.val / 4
    omega
  | ⟨1, _⟩ =>
    show win0_9.index t 1 * 48 + 1 * (y 1).val = (y 1).val
    rw [h.2.2.2.2.2.1]
    show 0 * 48 + 1 * (y 1).val = (y 1).val
    omega
  | ⟨2, _⟩ =>
    show win0_9.index t 2 * 256 + 1 * (y 2).val = 256 * (t.val % 4) + (y 2).val
    rw [h.2.2.2.2.2.1]
    show t.val % 4 * 256 + 1 * (y 2).val = 256 * (t.val % 4) + (y 2).val
    omega

/-- The place of a block's index in array 8. -/
theorem emb8 (t : Fin cfg0.N) (y : S1x2880x256.Idx) : ((cfg0.win 8).blk t).view.emb y = ix3 (n0 := 24) (n1 := 2880) (n2 := 1024)
      ⟨t.val / 4, by have := (idxT t).2.2.2.2.2.2; omega⟩ (y 1) ⟨256 * (t.val % 4) + (y 2).val, by have h : (y 2).val < 256 := (y 2).isLt; omega⟩ := by
  refine funext fun a => Fin.ext ?_
  have h := idxT t
  match a with
  | ⟨0, _⟩ =>
    show win0_8.index t 0 * 1 + 1 * (y 0).val = t.val / 4
    have h0 : (y 0).val < 1 := (y 0).isLt
    rw [h.2.2.2.2.1]
    show t.val / 4 * 1 + 1 * (y 0).val = t.val / 4
    omega
  | ⟨1, _⟩ =>
    show win0_8.index t 1 * 2880 + 1 * (y 1).val = (y 1).val
    rw [h.2.2.2.2.1]
    show 0 * 2880 + 1 * (y 1).val = (y 1).val
    omega
  | ⟨2, _⟩ =>
    show win0_8.index t 2 * 256 + 1 * (y 2).val = 256 * (t.val % 4) + (y 2).val
    rw [h.2.2.2.2.1]
    show t.val % 4 * 256 + 1 * (y 2).val = 256 * (t.val % 4) + (y 2).val
    omega

section
variable (hX : ∀ y, IsReal (V m c main_v0 y)) (h1 : ∀ y, IsReal (V m c main_v2 y)) (h2 : ∀ y, IsReal (V m c main_v3 y))
include hX h1 h2

/-- The scales of a block at an index. -/
theorem sBlock (t : Fin cfg0.N) (y : S1x48x256.Idx) :
    View.canon (sList (alphaOf t (V m c main_v1)) (aList (wins t (iblk m c 1 t) (PP m c))) (QQ m c)) y
      = sArr (V m c main_v1) (V m c main_v2) (V m c main_v3) (V m c main_v0) (ix3 (n0 := 24) (n1 := 48) (n2 := 1024)
          ⟨t.val / 4, by have := (idxT t).2.2.2.2.2.2; omega⟩ (y 1) ⟨256 * (t.val % 4) + (y 2).val, by have h : (y 2).val < 256 := (y 2).isLt; omega⟩) := by
  have hy : y = ix3 (n0 := 1) (n1 := 48) (n2 := 256) 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  refine (congrArg _ hy).trans ((sList_point (V m c main_v2) (V m c main_v3) h1 h2 t (iblk m c 1 t) (fun y => hX _) (V m c main_v1) (y 1) (y 2)).trans ?_)
  exact congrArg (scaleVal _) (congrArg maxAbs (funext fun k => xtVal_block m c _ _ t (y 1) k (y 2)))

theorem point9 (t : Fin cfg0.N) (y : S1x48x256.Idx) :
    View.canon (sList (alphaOf t (V m c main_v1)) (aList (wins t (iblk m c 1 t) (PP m c))) (QQ m c)) y
      = sArr (V m c main_v1) (V m c main_v2) (V m c main_v3) (V m c main_v0) ((win0_9.blk t).view.emb y) :=
  (sBlock m c hX h1 h2 t y).trans (congrArg (sArr (V m c main_v1) (V m c main_v2) (V m c main_v3) (V m c main_v0)) (emb9 t y)).symm

theorem final9 : (dats m 0 c).arrAt 9 cfg0.N = sArr (V m c main_v1) (V m c main_v2) (V m c main_v3) (V m c main_v0) := by
  refine (dats m 0 c).arrAt_eq_of_covers 9 _ (by decide +kernel) fun t _ y => ?_
  blk_simp
  rw [after0_9, s_at]
  exact point9 m c hX h1 h2 t y

/-- The codes of a block at an index. -/
theorem codeBlock (t : Fin cfg0.N) (y : S1x2880x256.Idx) :
    View.canon (codesOf t (V m c main_v1) (iblk m c 1 t) (PP m c) (QQ m c)) y
      = codeArr (V m c main_v1) (V m c main_v2) (V m c main_v3) (V m c main_v0) (ix3 (n0 := 24) (n1 := 2880) (n2 := 1024)
          ⟨t.val / 4, by have := (idxT t).2.2.2.2.2.2; omega⟩ (y 1) ⟨256 * (t.val % 4) + (y 2).val, by have h : (y 2).val < 256 := (y 2).isLt; omega⟩) := by
  have hr : (y 1).val < 2880 := (y 1).isLt
  have hy : y = ix3 (n0 := 1) (n1 := 2880) (n2 := 256) 0 ⟨60 * ((y 1).val / 60) + (y 1).val % 60, by omega⟩ (y 2) := by
    funext a
    match a with
    | ⟨0, _⟩ => exact Fin.ext (by have h : (y 0).val < 1 := (y 0).isLt; show (y 0).val = 0; omega)
    | ⟨1, _⟩ => exact Fin.ext (by show (y 1).val = 60 * ((y 1).val / 60) + (y 1).val % 60; omega)
    | ⟨2, _⟩ => rfl
  refine (congrArg _ hy).trans ((codes_point (V m c main_v2) (V m c main_v3) h1 h2 t (iblk m c 1 t) (fun y => hX _) (V m c main_v1)
    ⟨(y 1).val / 60, by omega⟩ ⟨(y 1).val % 60, by omega⟩ (y 2)).trans ?_)
  exact congrArg narrow (congrArg₂ codeVal (congrArg (scaleVal _) (congrArg maxAbs (funext fun k => xtVal_block m c _ _ t _ k (y 2))))
    (xtVal_block m c _ _ t _ _ (y 2)))

theorem point8 (t : Fin cfg0.N) (y : S1x2880x256.Idx) :
    View.canon (codesOf t (V m c main_v1) (iblk m c 1 t) (PP m c) (QQ m c)) y
      = codeArr (V m c main_v1) (V m c main_v2) (V m c main_v3) (V m c main_v0) ((win0_8.blk t).view.emb y) :=
  (codeBlock m c hX h1 h2 t y).trans (congrArg (codeArr (V m c main_v1) (V m c main_v2) (V m c main_v3) (V m c main_v0)) (emb8 t y)).symm

theorem final8 : (dats m 0 c).arrAt 8 cfg0.N = codeArr (V m c main_v1) (V m c main_v2) (V m c main_v3) (V m c main_v0) := by
  refine (dats m 0 c).arrAt_eq_of_covers 8 _ (by decide +kernel) fun t _ y => ?_
  blk_simp
  rw [after0_8, codes_at]
  exact point8 m c hX h1 h2 t y
end

/-! ## The host lines -/

theorem V_v0 : V m c main_v0 = transpose S24x2880x1024 [0, 2, 1] (m ((c.tc : Thread nD τ).loc main_arg0)) transposes_S24x1024x2880_S24x2880x1024_0_2_1 := by
  show V0 m c (Proc.devRef .tc main_v0) = _
  unfold V0
  simp only [List.flatten_cons, List.flatten_nil, List.append_nil, hostOps0]
  after_results_simp
theorem V_v1 : V m c main_v1 = shapeCast S1x1 (m ((c.tc : Thread nD τ).loc main_arg4)) shapeCasts_S1_S1x1 := by
  show V0 m c (Proc.devRef .tc main_v1) = _
  unfold V0
  simp only [List.flatten_cons, List.flatten_nil, List.append_nil, hostOps0]
  after_results_simp
  rfl
theorem V_v2 : V m c main_v2 = transpose S48x48 [1, 0] (m ((c.tc : Thread nD τ).loc main_arg2)) transposes_S48x48_S48x48_1_0 := by
  show V0 m c (Proc.devRef .tc main_v2) = _
  unfold V0
  simp only [List.flatten_cons, List.flatten_nil, List.append_nil, hostOps0]
  after_results_simp
theorem V_v3 : V m c main_v3 = transpose S60x60 [1, 0] (m ((c.tc : Thread nD τ).loc main_arg3)) transposes_S60x60_S60x60_1_0 := by
  show V0 m c (Proc.devRef .tc main_v3) = _
  unfold V0
  simp only [List.flatten_cons, List.flatten_nil, List.append_nil, hostOps0]
  after_results_simp

theorem W_v5 : Pipeline.afterTail₀ cfgs (dats m) 0 (V0 m) [hostOps1] c main_v5
    = transpose S24x1024x2880 [0, 2, 1] ((dats m 0 c).arrAt 8 cfg0.N) transposes_S24x2880x1024_S24x1024x2880_0_2_1 := by
  unfold Pipeline.afterTail₀
  after_results_simp
  exact congrArg (fun v => transpose S24x1024x2880 [0, 2, 1] v transposes_S24x2880x1024_S24x1024x2880_0_2_1)
    (Pipeline.withArrays_arr spec0 (by decide) c (V0 m c) (fun w => (dats m 0 c).arrAt w cfg0.N) 8)
theorem W_v6 : Pipeline.afterTail₀ cfgs (dats m) 0 (V0 m) [hostOps1] c main_v6
    = transpose S24x1024x48 [0, 2, 1] ((dats m 0 c).arrAt 9 cfg0.N) transposes_S24x48x1024_S24x1024x48_0_2_1 := by
  unfold Pipeline.afterTail₀
  after_results_simp
  exact congrArg (fun v => transpose S24x1024x48 [0, 2, 1] v transposes_S24x48x1024_S24x1024x48_0_2_1)
    (Pipeline.withArrays_arr spec0 (by decide) c (V0 m c) (fun w => (dats m 0 c).arrAt w cfg0.N) 9)

/-- Entry `k` of row `a` of token `n` of sequence `b`, over the arguments as they are. -/
def tVal (x : Vec Ideal S24x1024x2880 .bf16) (p1 : Vec Ideal S48x48 .f32) (p2 : Vec Ideal S60x60 .f32) (b : Fin 24) (n : Fin 1024) (a : Fin 48) (k : Fin 60) : EReal :=
  ∑ i : Fin 48, p1 (ix2 (n0 := 48) (n1 := 48) i a)
    * ∑ j : Fin 60, p2 (ix2 (n0 := 60) (n1 := 60) j k) * x (ix3 (n0 := 24) (n1 := 1024) (n2 := 2880) b n ⟨60 * i.val + j.val, by omega⟩)

/-- The scales the program returns. -/
def sRes (x : Vec Ideal S24x1024x2880 .bf16) (p1 : Vec Ideal S48x48 .f32) (p2 : Vec Ideal S60x60 .f32) (α : Vec Ideal S1 .f32) : Vec Ideal S24x1024x48 .f32 :=
  fun y => scaleVal (α (ix1 (n0 := 1) 0)) (maxAbs fun k => tVal x p1 p2 (y 0) (y 1) (y 2) k)

/-- The codes the program returns. -/
def codeRes (x : Vec Ideal S24x1024x2880 .bf16) (p1 : Vec Ideal S48x48 .f32) (p2 : Vec Ideal S60x60 .f32) (α : Vec Ideal S1 .f32) : Vec Ideal S24x1024x2880 .i8 :=
  fun y =>
    have h : (y 2).val < 2880 := (y 2).isLt
    narrow (codeVal (scaleVal (α (ix1 (n0 := 1) 0)) (maxAbs fun k => tVal x p1 p2 (y 0) (y 1) ⟨(y 2).val / 60, by omega⟩ k))
      (tVal x p1 p2 (y 0) (y 1) ⟨(y 2).val / 60, by omega⟩ ⟨(y 2).val % 60, by omega⟩))

section
variable (x : Vec Ideal S24x1024x2880 .bf16) (p1 : Vec Ideal S48x48 .f32) (p2 : Vec Ideal S60x60 .f32) (α : Vec Ideal S1 .f32)

theorem gVal_transposed (b : Fin 24) (n : Fin 1024) (a : Fin 48) (k : Fin 60) :
    gVal (transpose S48x48 [1, 0] p1 transposes_S48x48_S48x48_1_0) (transpose S60x60 [1, 0] p2 transposes_S60x60_S60x60_1_0)
      (transpose S24x2880x1024 [0, 2, 1] x transposes_S24x1024x2880_S24x2880x1024_0_2_1) b a k n = tVal x p1 p2 b n a k := by
  pointwise [gVal, tVal]

theorem alpha_cast : shapeCast S1x1 α shapeCasts_S1_S1x1 (ix2 (n0 := 1) (n1 := 1) 0 0) = α (ix1 (n0 := 1) 0) := by
  pointwise

theorem transpose_codes (v : Vec Ideal S24x2880x1024 .i8) (y : S24x1024x2880.Idx) :
    transpose S24x1024x2880 [0, 2, 1] v transposes_S24x2880x1024_S24x1024x2880_0_2_1 y = v (ix3 (n0 := 24) (n1 := 2880) (n2 := 1024) (y 0) (y 2) (y 1)) := by
  pointwise
theorem transpose_s (v : Vec Ideal S24x48x1024 .f32) (y : S24x1024x48.Idx) :
    transpose S24x1024x48 [0, 2, 1] v transposes_S24x48x1024_S24x1024x48_0_2_1 y = v (ix3 (n0 := 24) (n1 := 48) (n2 := 1024) (y 0) (y 2) (y 1)) := by
  pointwise

theorem codes_result : transpose S24x1024x2880 [0, 2, 1] (codeArr (shapeCast S1x1 α shapeCasts_S1_S1x1) (transpose S48x48 [1, 0] p1 transposes_S48x48_S48x48_1_0)
      (transpose S60x60 [1, 0] p2 transposes_S60x60_S60x60_1_0) (transpose S24x2880x1024 [0, 2, 1] x transposes_S24x1024x2880_S24x2880x1024_0_2_1))
      transposes_S24x2880x1024_S24x1024x2880_0_2_1 = codeRes x p1 p2 α := by
  funext y
  refine (transpose_codes _ y).trans ?_
  unfold codeArr codeRes
  exact congrArg narrow (congrArg₂ codeVal (congrArg₂ scaleVal (alpha_cast α) (congrArg maxAbs (funext fun k => gVal_transposed x p1 p2 (y 0) (y 1) _ k)))
    (gVal_transposed x p1 p2 (y 0) (y 1) _ _))
theorem s_result : transpose S24x1024x48 [0, 2, 1] (sArr (shapeCast S1x1 α shapeCasts_S1_S1x1) (transpose S48x48 [1, 0] p1 transposes_S48x48_S48x48_1_0)
      (transpose S60x60 [1, 0] p2 transposes_S60x60_S60x60_1_0) (transpose S24x2880x1024 [0, 2, 1] x transposes_S24x1024x2880_S24x2880x1024_0_2_1))
      transposes_S24x48x1024_S24x1024x48_0_2_1 = sRes x p1 p2 α := by
  funext y
  refine (transpose_s _ y).trans ?_
  unfold sArr sRes
  exact congrArg₂ scaleVal (alpha_cast α) (congrArg maxAbs (funext fun k => gVal_transposed x p1 p2 (y 0) (y 1) (y 2) k))
end

/-- THE PROGRAM: over finite tokens and factors it ends with the codes and the scales of its arguments, which end unchanged. -/
theorem run (ρ : Dev nD → PrngReg)
    (hx : ∀ c : Dev nD, ∀ y, IsReal (m ((c.tc : Thread nD τ).loc main_arg0) y)) (h1 : ∀ c : Dev nD, ∀ y, IsReal (m ((c.tc : Thread nD τ).loc main_arg2) y))
    (h2 : ∀ c : Dev nD, ∀ y, IsReal (m ((c.tc : Thread nD τ).loc main_arg3) y)) :
    θ_run (defs (F := Ideal)) (onTc (τ := τ) (main (F := Ideal))) ⟨m, fun _ => 0, ρ⟩ (fun r => ∀ c : Dev nD,
      r.2.mem ((c.tc : Thread nD τ).loc main_v5) = codeRes (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v6) = sRes (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have H0 : ∀ c y, IsReal (V m c main_v0 y) := fun c y => by rw [V_v0]; exact hx c _
  have H1 : ∀ c y, IsReal (V m c main_v2 y) := fun c y => by rw [V_v2]; exact h1 c _
  have H2 : ∀ c y, IsReal (V m c main_v3 y) := fun c y => by rw [V_v3]; exact h2 c _
  refine (θ_run _ _ _).mono (fun r h c => ⟨?_, ?_, h.2 c⟩) (θ_run_and (run_main m ρ) (unchanged m ρ))
  · refine ((h.1 c).2 main_v5 (Pipeline.mem_restRefs_of main_v5 (by decide) (by decide))).trans ((W_v5 m c).trans ?_)
    rw [final8 m c (H0 c) (H1 c) (H2 c), V_v0, V_v1, V_v2, V_v3]
    exact codes_result _ _ _ _
  · refine ((h.1 c).2 main_v6 (Pipeline.mem_restRefs_of main_v6 (by decide) (by decide))).trans ((W_v6 m c).trans ?_)
    rw [final9 m c (H0 c) (H1 c) (H2 c), V_v0, V_v1, V_v2, V_v3]
    exact s_result _ _ _ _

end Cert.TransformIdeal.Gen

end
-- ==== Proof.Ideal.Plain.lean ====
/-
  The reference's codes and scales at an index, and their agreement with what the transform's program leaves.
-/
module

public import proofs.«01_k».proof.Proof.Ideal.Result
public import proofs.«01_k».proof.Proof.Gen.PlainIdeal.Run

@[expose] public section

set_option maxRecDepth 16384

noncomputable section

namespace Cert.PlainIdeal.Hand

open Cert.PlainIdeal Cert.PlainIdeal.Gen Idealize.ShloMosaic Idealize.ShloMosaic.TcCoe Idealize.SL.Sem
open Cert.TransformIdeal.Gen (tVal scaleVal codeVal maxAbs narrow sRes codeRes)

variable (x : FVec Ideal S24x1024x2880 .bf16) (p1 : FVec Ideal S48x48 .f32) (p2 : FVec Ideal S60x60 .f32) (α : FVec Ideal S1 .f32)

/-- The transformed tokens. -/
def xt : FVec Ideal S24x1024x48x60 .f32 := transpose S24x1024x48x60 [1, 2, 0, 3] (Host.dotGeneral dot_S48x48_S24x1024x48x60_S48x24x1024x60_0_2_1_013_n_n (some .fp32) p1 (Host.dotGeneral dot_S24x1024x48x60_S60x60_S24x1024x48x60_3_0_012_1_n_n (some .fp32) (shapeCast _ (extf .f32 x bitsLt_bf16_f32) shapeCasts_S24x1024x2880_S24x1024x48x60) p2)) transposes_S48x24x1024x60_S24x1024x48x60_1_2_0_3
/-- The largest absolute value of each row. -/
def rowMax : FVec Ideal S24x1024x48 .f32 := Host.reduce FloatOps.maximumf (Host.absf (xt x p1 p2)) (constant S_ .f32 0xFF800000#32) reducesTo_S24x1024x48x60_S24x1024x48_d3 h_S_
/-- The scales. -/
def scale : FVec Ideal S24x1024x48 .f32 := select (cmpf .oeq (rowMax x p1 p2) (broadcastInDim S24x1024x48 ![] bcast_S_S24x1024x48 (constant S_ .f32 0x00000000#32))) (broadcastInDim S24x1024x48 ![] bcast_S_S24x1024x48 (id (constant S_ .f32 0x3F800000#32))) (Host.divf (mulf (broadcastInDim S24x1024x48 ![0, 1, 2] bcast_S1x1x1_S24x1024x48_0_1_2 (broadcastInDim S1x1x1 ![2] bcast_S1_S1x1x1_2 α)) (rowMax x p1 p2)) (broadcastInDim S24x1024x48 ![] bcast_S_S24x1024x48 (constant S_ .f32 0x40E00000#32)))
/-- The codes. -/
def codes : Vec Ideal S24x1024x2880 .i8 := shapeCast S24x1024x2880 (trunci 8 (fptosi 32 (minimumf (broadcastInDim S24x1024x48x60 ![] bcast_S_S24x1024x48x60 (id (constant S_ .f32 0x40E00000#32))) (maximumf (broadcastInDim S24x1024x48x60 ![] bcast_S_S24x1024x48x60 (id (constant S_ .f32 0xC0E00000#32))) (Host.roundeven (Host.divf (xt x p1 p2) (broadcastInDim S24x1024x48x60 ![0, 1, 2, 3] bcast_S24x1024x48x1_S24x1024x48x60_0_1_2_3 (broadcastInDim S24x1024x48x1 ![0, 1, 2] bcast_S24x1024x48_S24x1024x48x1_0_1_2 (scale x p1 p2 α)))))))) natLt_8_32) shapeCasts_S24x1024x48x60_S24x1024x2880

theorem xt_apply (b : Fin 24) (n : Fin 1024) (a : Fin 48) (k : Fin 60) :
    xt x p1 p2 (ix4 (n0 := 24) (n1 := 1024) (n2 := 48) (n3 := 60) b n a k) = tVal x p1 p2 b n a k := by
  pointwise [xt, tVal]
  refine Finset.sum_congr rfl fun i _ => congrArg _ (Finset.sum_congr rfl fun j _ => ?_)
  have e : (⟨i.val * 60 + j.val, by omega⟩ : Fin 2880) = ⟨60 * i.val + j.val, by omega⟩ := Fin.ext (by show i.val * 60 + j.val = 60 * i.val + j.val; omega)
  refine (EReal.mul_comm _ _).trans (congrArg (fun r => p2 (ix2 (n0 := 60) (n1 := 60) j k) * x (ix3 (n0 := 24) (n1 := 1024) (n2 := 2880) b n r)) e)

/-- The maximum over a row starts from minus infinity. -/
theorem start_bot : (Scalar.ofBits .f32 0xFF800000#32 : Ideal .f32) = (⊥ : EReal) := by
  show Ideal.ofBits .f32 0xFF800000#32 = ⊥
  simp [Ideal.ofBits, Ideal.ieee]

theorem max_of (T : FVec Ideal S24x1024x48x60 .f32) (y : S24x1024x48.Idx) :
    Host.reduce FloatOps.maximumf (Host.absf T) (constant S_ .f32 0xFF800000#32) reducesTo_S24x1024x48x60_S24x1024x48_d3 h_S_ y
      = maxAbs fun k => T (ix4 (n0 := 24) (n1 := 1024) (n2 := 48) (n3 := 60) (y 0) (y 1) (y 2) k) := by
  refine (Host.reduce_eq_fold _ _ _ _ _ y).trans ((Shape.ReducesTo.fold_fiber_r4_a3 reducesTo_S24x1024x48x60_S24x1024x48_d3 y _ _ _).trans ?_)
  unfold maxAbs Finset.sup
  show Finset.fold _ (Scalar.ofBits .f32 0xFF800000#32 : Ideal .f32) _ _ = _
  rw [start_bot]
  rfl

theorem scale_of (M : FVec Ideal S24x1024x48 .f32) (y : S24x1024x48.Idx) :
    select (cmpf .oeq M (broadcastInDim S24x1024x48 ![] bcast_S_S24x1024x48 (constant S_ .f32 0x00000000#32))) (broadcastInDim S24x1024x48 ![] bcast_S_S24x1024x48 (id (constant S_ .f32 0x3F800000#32))) (Host.divf (mulf (broadcastInDim S24x1024x48 ![0, 1, 2] bcast_S1x1x1_S24x1024x48_0_1_2 (broadcastInDim S1x1x1 ![2] bcast_S1_S1x1x1_2 α)) M) (broadcastInDim S24x1024x48 ![] bcast_S_S24x1024x48 (constant S_ .f32 0x40E00000#32))) y
      = scaleVal (α (ix1 (n0 := 1) 0)) (M y) := by
  have hα : broadcastInDim S24x1024x48 ![0, 1, 2] bcast_S1x1x1_S24x1024x48_0_1_2 (broadcastInDim S1x1x1 ![2] bcast_S1_S1x1x1_2 α) y = α (ix1 (n0 := 1) 0) := by
    pointwise
  unfold scaleVal
  rw [← hα]
  rfl

theorem codes_of (T : FVec Ideal S24x1024x48x60 .f32) (S : FVec Ideal S24x1024x48 .f32) (y : S24x1024x48x60.Idx) :
    trunci 8 (fptosi 32 (minimumf (broadcastInDim S24x1024x48x60 ![] bcast_S_S24x1024x48x60 (id (constant S_ .f32 0x40E00000#32))) (maximumf (broadcastInDim S24x1024x48x60 ![] bcast_S_S24x1024x48x60 (id (constant S_ .f32 0xC0E00000#32))) (Host.roundeven (Host.divf T (broadcastInDim S24x1024x48x60 ![0, 1, 2, 3] bcast_S24x1024x48x1_S24x1024x48x60_0_1_2_3 (broadcastInDim S24x1024x48x1 ![0, 1, 2] bcast_S24x1024x48_S24x1024x48x1_0_1_2 S))))))) natLt_8_32 y
      = narrow (codeVal (S (ix3 (n0 := 24) (n1 := 1024) (n2 := 48) (y 0) (y 1) (y 2))) (T y)) := by
  have hS : broadcastInDim S24x1024x48x60 ![0, 1, 2, 3] bcast_S24x1024x48x1_S24x1024x48x60_0_1_2_3 (broadcastInDim S24x1024x48x1 ![0, 1, 2] bcast_S24x1024x48_S24x1024x48x1_0_1_2 S) y
      = S (ix3 (n0 := 24) (n1 := 1024) (n2 := 48) (y 0) (y 1) (y 2)) := by
    pointwise
  unfold codeVal narrow
  rw [← hS]
  rfl

theorem cast_of (C : Vec Ideal S24x1024x48x60 .i8) (y : S24x1024x2880.Idx) (h : (y 2).val < 2880) :
    shapeCast S24x1024x2880 C shapeCasts_S24x1024x48x60_S24x1024x2880 y
      = C (ix4 (n0 := 24) (n1 := 1024) (n2 := 48) (n3 := 60) (y 0) (y 1) ⟨(y 2).val / 60, by omega⟩ ⟨(y 2).val % 60, by omega⟩) := by
  pointwise

theorem rowMax_apply (y : S24x1024x48.Idx) : rowMax x p1 p2 y = maxAbs fun k => tVal x p1 p2 (y 0) (y 1) (y 2) k :=
  (max_of (xt x p1 p2) y).trans (congrArg maxAbs (funext fun k => xt_apply x p1 p2 (y 0) (y 1) (y 2) k))

theorem scale_apply (y : S24x1024x48.Idx) : scale x p1 p2 α y = scaleVal (α (ix1 (n0 := 1) 0)) (maxAbs fun k => tVal x p1 p2 (y 0) (y 1) (y 2) k) :=
  (scale_of α (rowMax x p1 p2) y).trans (congrArg (scaleVal (α (ix1 (n0 := 1) 0))) (rowMax_apply x p1 p2 y))

/-- The reference's scales are the program's. -/
theorem scale_eq : scale x p1 p2 α = sRes x p1 p2 α := by
  funext y
  exact scale_apply x p1 p2 α y

/-- The reference's codes are the program's. -/
theorem codes_eq : codes x p1 p2 α = codeRes x p1 p2 α := by
  funext y
  have h : (y 2).val < 2880 := (y 2).isLt
  refine (cast_of _ y h).trans ((codes_of (xt x p1 p2) (scale x p1 p2 α) _).trans (congrArg narrow ?_))
  exact congrArg₂ codeVal (scale_apply x p1 p2 α _) (xt_apply x p1 p2 _ _ _ _)

end Cert.PlainIdeal.Hand

end
-- ==== Proof.Ideal.Finite.lean ====
/-
  What the precondition says: the tokens and the two factors are finite.
-/
module

public import proofs.«01_k».proof.Pre_finite
public import proofs.«01_k».proof.Proof.Gen.Pre_finite
public import proofs.«01_k».proof.Proof.Ideal.Arith

@[expose] public section

set_option maxRecDepth 16384

noncomputable section

namespace Cert.Pre_finite.Hand

open Cert.Pre_finite Idealize.ShloMosaic Cert.TransformIdeal.Gen

theorem and_one : ∀ b c : BitVec 1, IntOp.andi b c = 1#1 ↔ b = 1#1 ∧ c = 1#1 := by decide

/-- A conjunction over a whole array that is one is one at every index. -/
theorem all_one {s : Shape} {axes : List (Fin s.rank)} (v : IVec s 1) (init : IVec S_ 1) (h : s.ReducesTo axes S_) (hu : 0 < S_.numel)
    (e : Host.reduce IntOp.andi v init h hu ix0 = 1#1) (i : s.Idx) : v i = 1#1 := by
  rw [Host.reduce_eq_fold] at e
  have h2 := (Finset.fold_op_rel_iff_and (op := IntOp.andi) (r := fun (_ y : BitVec 1) => y = 1#1) (fun {_ y z} => and_one y z) (c := 0#1)).mp e
  refine h2.2 i (Finset.mem_filter.mpr ⟨Finset.mem_univ _, ?_⟩)
  funext a
  exact a.elim0

/-- A value whose absolute value is below plus infinity is a real number. -/
theorem real_of_lt (x : EReal) (e : FloatOps.cmpf (F := Ideal) (φ := .f32) .olt (FloatOps.hostAbsf (F := Ideal) (φ := .f32) x) (Scalar.ofBits .f32 0x7F800000#32 : Ideal .f32) = 1#1) : IsReal x := by
  have top : (Scalar.ofBits .f32 0x7F800000#32 : Ideal .f32) = (⊤ : EReal) := by
    show Ideal.ofBits .f32 0x7F800000#32 = ⊤
    simp [Ideal.ofBits, Ideal.ieee]
  rw [top] at e
  constructor
  · rintro rfl
    revert e
    simp [FloatOps.cmpf, Ideal.cmp, FloatOps.absf]
  · rintro rfl
    revert e
    simp [FloatOps.cmpf, Ideal.cmp, FloatOps.absf]

variable [Facts]
open Facts

theorem finite_of (x : FVec Ideal S24x1024x2880 .bf16) (q : FVec Ideal S192x2880x128 .f32) (p1 : FVec Ideal S48x48 .f32) (p2 : FVec Ideal S60x60 .f32) (α : FVec Ideal S1 .f32)
    (e : Cert.Pre_finite.fn (F := Ideal) x q p1 p2 α = fun _ => 1#1) :
    (∀ y, IsReal (x y)) ∧ (∀ y, IsReal (p1 y)) ∧ ∀ y, IsReal (p2 y) := by
  have e0 := congrFun e ix0
  have e1 := (and_one _ _).mp e0
  have e2 := (and_one _ _).mp e1.1
  exact ⟨fun y => real_of_lt _ (all_one _ _ _ _ e2.1 y), fun y => real_of_lt _ (all_one _ _ _ _ e2.2 y), fun y => real_of_lt _ (all_one _ _ _ _ e1.2 y)⟩

end Cert.Pre_finite.Hand

end
-- ==== Proof.Unpack.lean ====
/-
  What the two calls of the kernel leave, over the extended reals: the first the unpacked weights, the second their
  product with the output gradient.
-/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The low four bits of a byte as a signed 4-bit integer, the way the kernel extends the sign: `((b & 15) ^ 8) - 8`. -/
def nibLo (b : BitVec 8) : BitVec 32 := IntOp.subi (IntOp.xori (IntOp.andi (BitVec.setWidth 32 b) 15#32) 8#32) 8#32

/-- The high four bits of a byte as a signed 4-bit integer: `((b >> 4) ^ 8) - 8`. -/
def nibHi (b : BitVec 8) : BitVec 32 :=
  IntOp.subi (IntOp.xori (IntOp.shrsi ArithUnit.vector (BitVec.setWidth 32 b) 4#32) 8#32) 8#32

/-- Half number `p` of a byte, as a signed 4-bit integer: the low half for `p` even, the high half for `p` odd. -/
def signedNib (p : ℕ) (b : BitVec 8) : BitVec 32 := if p % 2 < 1 then nibLo b else nibHi b

/-- Only the parity of the half's number counts. -/
theorem signedNib_congr (p q : ℕ) (h : p % 2 = q % 2) (b : BitVec 8) : signedNib p b = signedNib q b := by
  unfold signedNib; rw [h]

/-- The unpacked weights: row `2r` holds the low halves of packed row `r`, row `2r+1` the high halves, each times its
    column's scale. -/
def unpacked (C : Vec Ideal S1440x7680 .i8) (S : Vec Ideal S1x7680 .bf16) : FVec Ideal S2880x7680 .bf16 := fun i =>
  FloatOps.sitofp (F := Ideal) FTy.f32 (signedNib (i 0).val
      (C (ix2 (n0 := 1440) (n1 := 7680) ⟨(i 0).val / 2, by have h : (i 0).val < 2880 := (i 0).isLt; omega⟩ (i 1))))
    * S (ix2 (n0 := 1) (n1 := 7680) 0 (i 1))

/-- The body of the first call at an index. -/
theorem pay1_apply (v0 : Vec Ideal S96x7680 .i8) (v20 : Vec Ideal S1x7680 .bf16) (y : S192x7680.Idx) :
    k0_pay1 v0 v20 y = FloatOps.sitofp (F := Ideal) FTy.f32 (signedNib (y 0).val
      (v0 (ix2 (n0 := 96) (n1 := 7680) ⟨(y 0).val / 2, by have h : (y 0).val < 192 := (y 0).isLt; omega⟩ (y 1))))
      * v20 (ix2 (n0 := 1) (n1 := 7680) 0 (y 1)) := by
  pointwise [k0_pay1, signedNib, nibLo, nibHi]
  rfl

/-- Where the windows of the first call sit at each grid point. -/
theorem idx0 : ∀ t : Fin cfg0.N, win0_0.index t = ![t.val, 0] ∧ win0_1.index t = ![0, 0] ∧ win0_2.index t = ![t.val, 0] ∧ t.val < 15 :=
  (by decide +kernel : ∀ t : Fin grid0.N, _)

/-- Where the windows of the second call sit at each grid point. -/
theorem idx1 : ∀ t : Fin cfg1.N, win1_0.index t = ![t.val % 6, 0] ∧ win1_1.index t = ![t.val / 6, 0]
    ∧ win1_2.index t = ![t.val / 6, t.val % 6, 0] ∧ t.val < 144 :=
  (by decide +kernel : ∀ t : Fin grid1.N, _)

/-- What grid point `t` of the first call stores at block index `y`: the unpacked weight at the array index it sits at. -/
theorem point0 (c : Dev nD) (t : Fin cfg0.N) (y : S192x7680.Idx) : k0_pay1 (iblk0 (V1 m ρ) c 0 t) (iblk0 (V1 m ρ) c 1 t) y
    = unpacked (V1 m ρ c main_arg1) (V1 m ρ c main_v2) (((cfg0.win 2).blk t).view.emb y) := by
  have hp : ((((cfg0.win 2).blk t).view.emb y) 0).val % 2 = (y 0).val % 2 := by
    blk_simp [idx0 t]; omega
  rw [pay1_apply, ← signedNib_congr _ _ hp]
  unfold unpacked
  blk_point [iblk0, idx0 t]

/-- The first call leaves the unpacked weights. -/
theorem final0 (c : Dev nD) : (dat0 (V1 m ρ) c).arrAt 2 cfg0.N = unpacked (V1 m ρ c main_arg1) (V1 m ρ c main_v2) := by
  refine (dat0 (V1 m ρ) c).arrAt_eq_of_covers 2 _ (by decide +kernel) fun t _ y => ?_
  blk_simp
  rw [after0_2]; frame_out
  exact point0 m ρ c t y

/-- One entry of the product of the second call: row `r` of the weights against token `128 n + l` of the gradient. -/
def dxhat (W : FVec Ideal S2880x7680 .bf16) (D : FVec Ideal S24576x7680 .bf16) : FVec Ideal S192x2880x128 .f32 := fun i =>
  ∑ k : Fin 7680, W (ix2 (n0 := 2880) (n1 := 7680) (i 1) k)
    * D (ix2 (n0 := 24576) (n1 := 7680) ⟨(i 0).val * 128 + (i 2).val, by
        have h0 : (i 0).val < 192 := (i 0).isLt
        have h2 : (i 2).val < 128 := (i 2).isLt
        omega⟩ k)

/-- The product of a grid point's two blocks, at the index of the array it lands at. -/
theorem core1 (c : Dev nD) (t : Fin cfg1.N) (y : S8x480x128.Idx) (i : S480x1024.Idx) (j : S192x2880x128.Idx)
    (hi0 : (i 0 : ℕ) = y 1) (hi1 : (i 1 : ℕ) = (y 0 : ℕ) * 128 + y 2)
    (hj0 : (j 0 : ℕ) = t.val / 6 * 8 + y 0) (hj1 : (j 1 : ℕ) = t.val % 6 * 480 + y 1) (hj2 : (j 2 : ℕ) = y 2) :
    k1_pay3 (F := Ideal) (iblk1 (V2 m ρ) c 0 t) (iblk1 (V2 m ρ) c 1 t) i
      = dxhat (V2 m ρ c main_v3) (V2 m ρ c main_v0) j := by
  pointwise [k1_pay3, dxhat]
  blk_point [iblk1, idx1 t]

/-- What grid point `t` of the second call stores at block index `y`. -/
theorem point1 (c : Dev nD) (t : Fin cfg1.N) (y : S8x480x128.Idx) :
    out1_2 (iblk1 (V2 m ρ) c 0 t) (iblk1 (V2 m ρ) c 1 t) y
      = dxhat (V2 m ρ c main_v3) (V2 m ρ c main_v0) (((cfg1.win 2).blk t).view.emb y) := by
  obtain_idx i : S480x1024 := [(y 1 : ℕ), (y 0 : ℕ) * 128 + (y 2 : ℕ)] with hi
  refine Eq.trans (b := k1_pay3 (F := Ideal) (iblk1 (V2 m ρ) c 0 t) (iblk1 (V2 m ρ) c 1 t) i) ?_ (core1 m ρ c t y i _ hi0 hi1 ?_ ?_ ?_)
  · canon_tiles x h
    all_goals (open_payloads; pointwise; blk_ext)
  all_goals (blk_simp [idx1 t] <;> try omega)

/-- The second call leaves the product. -/
theorem final1 (c : Dev nD) : (dat1 (V2 m ρ) c).arrAt 2 cfg1.N = dxhat (V2 m ρ c main_v3) (V2 m ρ c main_v0) := by
  refine (dat1 (V2 m ρ) c).arrAt_eq_of_covers 2 _ (by decide +kernel) fun t _ y => ?_
  blk_simp
  rw [after1_2]
  exact point1 m ρ c t y

/-! ## The run, with the result named -/

/-- The host reshape before the calls: the gradient's tokens in one axis. -/
theorem V2_v0 (c : Dev nD) : V2 m ρ c main_v0
    = shapeCast S24576x7680 (m ((c : Thread nD τ).loc main_arg0) : FVec Ideal S24x1024x7680 .bf16) shapeCasts_S24x1024x7680_S24576x7680 := by
  have h1 : V2 m ρ c main_v0 = W1 m ρ c (Proc.devRef .tc main_v0) := W2_of m ρ c main_v0 (by decide)
  rw [h1]
  after_results_simp
  rfl

/-- The weights' buffer when the second call starts. -/
theorem V2_v3 (c : Dev nD) : V2 m ρ c main_v3 = unpacked (V1 m ρ c main_arg1) (V1 m ρ c main_v2) :=
  (W2_arr m ρ c 2).trans (final0 m ρ c)

/-- The packed weights when the first call starts: the argument itself. -/
theorem V1_arg1 (c : Dev nD) : V1 m ρ c main_arg1 = m ((c : Thread nD τ).loc main_arg1) := W1_args m ρ c main_arg1 (by decide)

/-- The scales as one row. -/
def scaleRow (S : FVec Ideal S7680 .f32) : FVec Ideal S1x7680 .bf16 :=
  shapeCast S1x7680 (truncf .bf16 S bitsLt_bf16_f32) shapeCasts_S7680_S1x7680

/-- The scales when the first call starts: the argument as one row. -/
theorem V1_v2 (c : Dev nD) : V1 m ρ c main_v2
    = scaleRow (m ((c : Thread nD τ).loc main_arg2)) := by
  show W1 m ρ c (Proc.devRef .tc main_v2) = _
  after_results_simp
  rfl

/-- What the kernel returns, from its three arguments. -/
def result (D : FVec Ideal S24x1024x7680 .bf16) (C : Vec Ideal S1440x7680 .i8) (S : FVec Ideal S7680 .f32) : FVec Ideal S192x2880x128 .f32 :=
  dxhat (unpacked C (scaleRow S))
    (shapeCast S24576x7680 D shapeCasts_S24x1024x7680_S24576x7680)

/-- The result's buffer after the run. -/
theorem W3_result (c : Dev nD) : W3 m ρ c (Proc.devRef .tc main_v4)
    = result (m ((c : Thread nD τ).loc main_arg0)) (m ((c : Thread nD τ).loc main_arg1)) (m ((c : Thread nD τ).loc main_arg2)) := by
  refine ((W3_arr m ρ c 2).trans (final1 m ρ c)).trans ?_
  rw [V2_v0, V2_v3, V1_arg1, V1_v2]
  rfl

end Cert.KernelIdeal.Hand

end
-- ==== Proof.Run.lean ====
/-
  The run of the whole kernel over the extended reals, with its result named.
-/
module

public import proofs.«01_k».proof.Proof.Unpack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters every fair execution of the kernel ends, nothing faulting, with the result's buffer
    at `result` of the three arguments and the arguments as launched: the frame's launch read at every buffer. -/
theorem run : θ_run defs (onTc (τ := τ) (main (F := Ideal))) ⟨m, fun _ => 0, ρ⟩ (fun r => ∀ c : Dev nD,
      r.2.mem ((c.tc : Thread nD τ).loc main_v4)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v4 (by decide))).trans (W3_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Hand

end
-- ==== Proof.Equation.lean ====
/-
  The reference at an index, and its agreement with what the kernel leaves.
-/
module

public import proofs.«01_k».proof.Proof.Unpack
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen

/-- The reference's result as the composed term of its arguments. -/
def result (D : FVec Ideal S24x1024x7680 .bf16) (C : Vec Ideal S1440x7680 .i8) (S : FVec Ideal S7680 .f32) : FVec Ideal S192x2880x128 .f32 :=
  transpose S192x2880x128 [0, 2, 1] (shapeCast S192x128x2880 (concatenate S24x1024x1440x2 3 [⟨S24x1024x1440x1, (broadcastInDim S24x1024x1440x1 ![0, 1, 2] bcast_S24x1024x1440_S24x1024x1440x1_0_1_2 (Host.dotGeneral dot_S24x1024x7680_S1440x7680_S24x1024x1440_2_1_01_0_n_n none D (mulf (sitofp .bf16 (select (cmpi .sge (andi (extui 32 C natLt_8_32) (broadcastInDim S1440x7680 ![] bcast_S_S1440x7680 (constantI S_ 32 15#32))) (broadcastInDim S1440x7680 ![] bcast_S_S1440x7680 (constantI S_ 32 8#32))) (subi (andi (extui 32 C natLt_8_32) (broadcastInDim S1440x7680 ![] bcast_S_S1440x7680 (constantI S_ 32 15#32))) (broadcastInDim S1440x7680 ![] bcast_S_S1440x7680 (constantI S_ 32 16#32))) (andi (extui 32 C natLt_8_32) (broadcastInDim S1440x7680 ![] bcast_S_S1440x7680 (constantI S_ 32 15#32))))) (broadcastInDim S1440x7680 ![0, 1] bcast_S1x7680_S1440x7680_0_1 (broadcastInDim S1x7680 ![1] bcast_S7680_S1x7680_1 (truncf .bf16 S bitsLt_bf16_f32))))))⟩, ⟨S24x1024x1440x1, (broadcastInDim S24x1024x1440x1 ![0, 1, 2] bcast_S24x1024x1440_S24x1024x1440x1_0_1_2 (Host.dotGeneral dot_S24x1024x7680_S1440x7680_S24x1024x1440_2_1_01_0_n_n none D (mulf (sitofp .bf16 (select (cmpi .sge (Host.shrsi (extui 32 C natLt_8_32) (broadcastInDim S1440x7680 ![] bcast_S_S1440x7680 (constantI S_ 32 4#32))) (broadcastInDim S1440x7680 ![] bcast_S_S1440x7680 (constantI S_ 32 8#32))) (subi (Host.shrsi (extui 32 C natLt_8_32) (broadcastInDim S1440x7680 ![] bcast_S_S1440x7680 (constantI S_ 32 4#32))) (broadcastInDim S1440x7680 ![] bcast_S_S1440x7680 (constantI S_ 32 16#32))) (Host.shrsi (extui 32 C natLt_8_32) (broadcastInDim S1440x7680 ![] bcast_S_S1440x7680 (constantI S_ 32 4#32))))) (broadcastInDim S1440x7680 ![0, 1] bcast_S1x7680_S1440x7680_0_1 (broadcastInDim S1x7680 ![1] bcast_S7680_S1x7680_1 (truncf .bf16 S bitsLt_bf16_f32))))))⟩] concatenates_S24x1024x1440x1_S24x1024x1440x1_S24x1024x1440x2_d3) shapeCasts_S24x1024x1440x2_S192x128x2880) transposes_S192x128x2880_S192x2880x128_0_2_1

/-- The low half of a byte with its sign, by the reference's rule (subtract 16 from 8 on) and by the kernel's: equal on all 256 bytes. -/
theorem low_half : ∀ b : BitVec 8,
    Scalar.select (IntOp.cmpi CmpIPredicate.sge (IntOp.andi (BitVec.setWidth 32 b) 15#32) 8#32)
      (IntOp.subi (IntOp.andi (BitVec.setWidth 32 b) 15#32) 16#32) (IntOp.andi (BitVec.setWidth 32 b) 15#32)
    = Cert.KernelIdeal.Hand.nibLo b := by decide +kernel

/-- The same for the high half. -/
theorem high_half : ∀ b : BitVec 8,
    Scalar.select (IntOp.cmpi CmpIPredicate.sge (IntOp.shrsi ArithUnit.host (BitVec.setWidth 32 b) 4#32) 8#32)
      (IntOp.subi (IntOp.shrsi ArithUnit.host (BitVec.setWidth 32 b) 4#32) 16#32)
      (IntOp.shrsi ArithUnit.host (BitVec.setWidth 32 b) 4#32)
    = Cert.KernelIdeal.Hand.nibHi b := by decide +kernel

/-- Over the extended reals an integer reads the same in either format. -/
theorem sitofp_format (b : BitVec 32) : (FloatOps.sitofp (F := Ideal) FTy.bf16 b : EReal) = FloatOps.sitofp (F := Ideal) FTy.f32 b := rfl

set_option maxHeartbeats 1600000 in
/-- The reference and the kernel's result are one function of the three arguments. -/
theorem agree (D : FVec Ideal S24x1024x7680 .bf16) (C : Vec Ideal S1440x7680 .i8) (S : FVec Ideal S7680 .f32) :
    result D C S = Cert.KernelIdeal.Hand.result D C S := by
  funext j
  pointwise [result, Cert.KernelIdeal.Hand.result, Cert.KernelIdeal.Hand.dxhat, Cert.KernelIdeal.Hand.unpacked, Cert.KernelIdeal.Hand.scaleRow]
  simp only [low_half, high_half]
  split
  next hp =>
    simp only [show Cert.KernelIdeal.Hand.signedNib (j 1).val = Cert.KernelIdeal.Hand.nibLo from funext fun b => if_pos hp]
    blk_point []
    exact sitofp_format _
  next hp =>
    simp only [show Cert.KernelIdeal.Hand.signedNib (j 1).val = Cert.KernelIdeal.Hand.nibHi from funext fun b => if_neg hp]
    blk_point []
    exact sitofp_format _

end Cert.ReferenceIdeal.Hand

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Transform
public import proofs.«01_k».proof.Proof.Gen.Transform.Skeleton
public import proofs.«01_k».proof.Proof.Gen.Transform.Launch
public import proofs.«01_k».proof.Proof.Gen.Transform.Points
public import proofs.«01_k».proof.Proof.Gen.TransformIdeal
public import proofs.«01_k».proof.Proof.Gen.TransformIdeal.Skeleton
public import proofs.«01_k».proof.Proof.Gen.TransformIdeal.Launch
public import proofs.«01_k».proof.Proof.Gen.TransformIdeal.Points
public import proofs.«01_k».proof.Proof.Gen.TransformIdeal.Frame
public import proofs.«01_k».proof.Proof.Gen.PlainIdeal
public import proofs.«01_k».proof.Proof.Gen.PlainIdeal.Run
public import proofs.«01_k».proof.Proof.Gen.Pre_finite
public import proofs.«01_k».proof.Proof.Transform.Forget
public import proofs.«01_k».proof.Proof.Ideal.Plain
public import proofs.«01_k».proof.Proof.Ideal.Finite
public import proofs.«01_k».proof.Proof.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, its arguments unchanged and every counter at zero. -/
theorem frame_reference : Cert.quiescent_ReferenceIdeal (hReferenceIdeal := Cert.ReferenceIdeal.Gen.facts) := by
  intro m g _
  exact (θ_run _ _ _).mono (fun _ h => ⟨fun c => (h c).2, sem_eq_zero_of_no_sems (by decide) _⟩) (Cert.ReferenceIdeal.Value.run m g)

/-- From the same arguments the kernel and the reference leave the same array. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Hand.result (m ((c.tc : Thread _ _).loc Cert.KernelIdeal.main_arg0))
    (m ((c.tc : Thread _ _).loc Cert.KernelIdeal.main_arg1)) (m ((c.tc : Thread _ _).loc Cert.KernelIdeal.main_arg2)),
    Cert.KernelIdeal.Hand.run m g, (θ_run _ _ _).mono (fun _ h c => ⟨(h c).1.trans ?_, (h c).2⟩) (Cert.ReferenceIdeal.Value.run m' g')⟩
  rw [(hag c).1, (hag c).2.1, (hag c).2.2]
  exact Cert.ReferenceIdeal.Hand.agree _ _ _

/-- The reference of the transform runs, its arguments unchanged and every counter at zero. -/
theorem frame_plain : Cert.quiescent_PlainIdeal (hPlainIdeal := Cert.PlainIdeal.Gen.facts) := by
  intro m g _
  exact (θ_run _ _ _).mono (fun _ h => ⟨fun c => (h c).2.2, sem_eq_zero_of_no_sems (by decide) _⟩) (Cert.PlainIdeal.Value.run m g)

/-- From the same finite arguments the transform and its reference leave the same codes and the same scales. -/
theorem algebraic_transform : Cert.algebraic_TransformIdeal_PlainIdeal_pre_finite (hTransformIdeal := Cert.TransformIdeal.Gen.facts)
    (hPlainIdeal := Cert.PlainIdeal.Gen.facts) (hPre_finite := Cert.Pre_finite.Gen.facts) := by
  intro m g m' g' hp hag
  have hf := fun c => Cert.Pre_finite.Hand.finite_of _ _ _ _ _ (hp c)
  refine ⟨fun c => Cert.TransformIdeal.Gen.codeRes (m ((c.tc : Thread _ _).loc Cert.TransformIdeal.main_arg0))
      (m ((c.tc : Thread _ _).loc Cert.TransformIdeal.main_arg2)) (m ((c.tc : Thread _ _).loc Cert.TransformIdeal.main_arg3)) (m ((c.tc : Thread _ _).loc Cert.TransformIdeal.main_arg4)),
    fun c => Cert.TransformIdeal.Gen.sRes (m ((c.tc : Thread _ _).loc Cert.TransformIdeal.main_arg0))
      (m ((c.tc : Thread _ _).loc Cert.TransformIdeal.main_arg2)) (m ((c.tc : Thread _ _).loc Cert.TransformIdeal.main_arg3)) (m ((c.tc : Thread _ _).loc Cert.TransformIdeal.main_arg4)),
    Cert.TransformIdeal.Gen.run m g (fun c => (hf c).1) (fun c => (hf c).2.1) (fun c => (hf c).2.2),
    (θ_run _ _ _).mono (fun _ h c => ⟨(h c).1.trans ?_, (h c).2.1.trans ?_, (h c).2.2⟩) (Cert.PlainIdeal.Value.run m' g')⟩
  · rw [(hag c).1, (hag c).2.2.1, (hag c).2.2.2.1, (hag c).2.2.2.2]
    exact Cert.PlainIdeal.Hand.codes_eq _ _ _ _
  · rw [(hag c).1, (hag c).2.2.1, (hag c).2.2.2.1, (hag c).2.2.2.2]
    exact Cert.PlainIdeal.Hand.scale_eq _ _ _ _

theorem claim : Cert.Claim := ⟨Cert.Kernel.Gen.facts, Cert.KernelIdeal.Gen.facts, Cert.ReferenceIdeal.Gen.facts,
  Cert.Transform.Gen.facts, Cert.TransformIdeal.Gen.facts, Cert.PlainIdeal.Gen.facts, Cert.Pre_finite.Gen.facts,
  fun m ρ _ => Cert.Kernel.Gen.frame m ρ, fun m ρ _ => Cert.KernelIdeal.Gen.frame m ρ, frame_reference,
  fun m ρ _ => Cert.Transform.Gen.frame m ρ, fun m ρ _ => Cert.TransformIdeal.Gen.frame m ρ, fun m ρ _ => Cert.TransformIdeal.Gen.frame m ρ,
  frame_plain, fun m ρ _ => frame_plain m ρ trivial,
  trivial, algebraic, IdealRules.sign_bit.statement _ _, algebraic_transform⟩

end Cert.Proof

end
